-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S_ : Shape := ⟨0, ![]⟩
abbrev S512x512 : Shape := ⟨2, ![512, 512]⟩
abbrev S2x256x4x64 : Shape := ⟨4, ![2, 256, 4, 64]⟩
abbrev S2x4x256x256 : Shape := ⟨4, ![2, 4, 256, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x1x256x256 : Shape := ⟨4, ![1, 1, 256, 256]⟩
abbrev S2x4x256 : Shape := ⟨3, ![2, 4, 256]⟩
abbrev S2x4x256x1 : Shape := ⟨4, ![2, 4, 256, 1]⟩
abbrev S2x4x64x256 : Shape := ⟨4, ![2, 4, 64, 256]⟩
abbrev S3x128x512 : Shape := ⟨3, ![3, 128, 512]⟩
abbrev S128x512 : Shape := ⟨2, ![128, 512]⟩
abbrev S3 : Shape := ⟨1, ![3]⟩
abbrev S1 : Shape := ⟨1, ![1]⟩
abbrev S1x128x512 : Shape := ⟨3, ![1, 128, 512]⟩

abbrev nBuf : Space → Nat
  | .hbm => 109
  | .vmem => 5
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x16x64, .f32⟩
  | .hbm, ⟨3, _⟩ => ⟨S2x256x16x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S512x512, .f32⟩
  | .hbm, ⟨12, _⟩ => ⟨S512x256, .f32⟩
  | .hbm, ⟨13, _⟩ => ⟨S2x256x4x64, .f32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S2x256x4x64, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S2x256x4x64, .f32⟩
  | .hbm, ⟨36, _⟩ => ⟨S2x4x256x256, .f32⟩
  | .hbm, ⟨37, _⟩ => ⟨S_, .f32⟩
  | .hbm, ⟨38, _⟩ => ⟨S2x4x256x256, .f32⟩
  | .hbm, ⟨39, _⟩ => ⟨S2x4x256x256, .f32⟩
  | .hbm, ⟨40, _⟩ => ⟨S256, .i32⟩
  | .hbm, ⟨41, _⟩ => ⟨S_, .i32⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S_, .i32⟩
  | .hbm, ⟨47, _⟩ => ⟨S256, .i32⟩
  | .hbm, ⟨48, _⟩ => ⟨S256, .i1⟩
  | .hbm, ⟨49, _⟩ => ⟨S256, .i32⟩
  | .hbm, ⟨50, _⟩ => ⟨S256, .i32⟩
  | .hbm, ⟨51, _⟩ => ⟨S_, .i32⟩
  | .hbm, ⟨52, _⟩ => ⟨S256, .i32⟩
  | .hbm, ⟨53, _⟩ => ⟨S256, .i1⟩
  | .hbm, ⟨54, _⟩ => ⟨S256, .i1⟩
  | .hbm, ⟨55, _⟩ => ⟨S_, .i32⟩
  | .hbm, ⟨56, _⟩ => ⟨S256, .i32⟩
  | .hbm, ⟨57, _⟩ => ⟨S256, .i32⟩
  | .hbm, ⟨58, _⟩ => ⟨S256, .i32⟩
  | .hbm, ⟨59, _⟩ => ⟨S256, .i32⟩
  | .hbm, ⟨60, _⟩ => ⟨S_, .i32⟩
  | .hbm, ⟨61, _⟩ => ⟨S_, .i32⟩
  | .hbm, ⟨62, _⟩ => ⟨S256, .i32⟩
  | .hbm, ⟨63, _⟩ => ⟨S256, .i32⟩
  | .hbm, ⟨64, _⟩ => ⟨S256, .i32⟩
  | .hbm, ⟨65, _⟩ => ⟨S_, .i32⟩
  | .hbm, ⟨66, _⟩ => ⟨S256, .i32⟩
  | .hbm, ⟨67, _⟩ => ⟨S256, .i1⟩
  | .hbm, ⟨68, _⟩ => ⟨S256, .i32⟩
  | .hbm, ⟨69, _⟩ => ⟨S256, .i32⟩
  | .hbm, ⟨70, _⟩ => ⟨S_, .i32⟩
  | .hbm, ⟨71, _⟩ => ⟨S256, .i32⟩
  | .hbm, ⟨72, _⟩ => ⟨S256, .i1⟩
  | .hbm, ⟨73, _⟩ => ⟨S256, .i1⟩
  | .hbm, ⟨74, _⟩ => ⟨S_, .i32⟩
  | .hbm, ⟨75, _⟩ => ⟨S256, .i32⟩
  | .hbm, ⟨76, _⟩ => ⟨S256, .i32⟩
  | .hbm, ⟨77, _⟩ => ⟨S256, .i32⟩
  | .hbm, ⟨78, _⟩ => ⟨S1x256, .i32⟩
  | .hbm, ⟨79, _⟩ => ⟨S256x1, .i32⟩
  | .hbm, ⟨80, _⟩ => ⟨S256x256, .i32⟩
  | .hbm, ⟨81, _⟩ => ⟨S256x256, .i32⟩
  | .hbm, ⟨82, _⟩ => ⟨S256x256, .i1⟩
  | .hbm, ⟨83, _⟩ => ⟨S1x1x256x256, .i1⟩
  | .hbm, ⟨84, _⟩ => ⟨S_, .f32⟩
  | .hbm, ⟨85, _⟩ => ⟨S_, .f32⟩
  | .hbm, ⟨86, _⟩ => ⟨S2x4x256x256, .i1⟩
  | .hbm, ⟨87, _⟩ => ⟨S2x4x256x256, .f32⟩
  | .hbm, ⟨88, _⟩ => ⟨S2x4x256x256, .f32⟩
  | .hbm, ⟨89, _⟩ => ⟨S_, .f32⟩
  | .hbm, ⟨90, _⟩ => ⟨S2x4x256, .f32⟩
  | .hbm, ⟨91, _⟩ => ⟨S_, .f32⟩
  | .hbm, ⟨92, _⟩ => ⟨S2x4x256, .f32⟩
  | .hbm, ⟨93, _⟩ => ⟨S2x4x256, .f32⟩
  | .hbm, ⟨94, _⟩ => ⟨S2x4x256x1, .f32⟩
  | .hbm, ⟨95, _⟩ => ⟨S2x4x256x256, .f32⟩
  | .hbm, ⟨96, _⟩ => ⟨S2x4x256x256, .f32⟩
  | .hbm, ⟨97, _⟩ => ⟨S2x4x256x256, .f32⟩
  | .hbm, ⟨98, _⟩ => ⟨S_, .f32⟩
  | .hbm, ⟨99, _⟩ => ⟨S2x4x256, .f32⟩
  | .hbm, ⟨100, _⟩ => ⟨S2x4x256x1, .f32⟩
  | .hbm, ⟨101, _⟩ => ⟨S2x4x256x256, .f32⟩
  | .hbm, ⟨102, _⟩ => ⟨S2x4x256x256, .f32⟩
  | .hbm, ⟨103, _⟩ => ⟨S2x4x64x256, .f32⟩
  | .hbm, ⟨104, _⟩ => ⟨S2x256x4x64, .f32⟩
  | .hbm, ⟨105, _⟩ => ⟨S512x256, .f32⟩
  | .hbm, ⟨106, _⟩ => ⟨S512x512, .f32⟩
  | .hbm, ⟨107, _⟩ => ⟨S512x512, .f32⟩
  | .hbm, ⟨108, _⟩ => ⟨S2x256x512, .f32⟩
  | .local _ .vmem, ⟨0, _⟩ => ⟨S512x512, .f32⟩
  | .local _ .vmem, ⟨1, _⟩ => ⟨S512x512, .f32⟩
  | .local _ .vmem, ⟨2, _⟩ => ⟨S3x128x512, .f32⟩
  | .local _ .vmem, ⟨3, _⟩ => ⟨S128x512, .f32⟩
  | .local _ .vmem, ⟨4, _⟩ => ⟨S3x128x512, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_c_5 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_c_9 : Ref sig .tc := ⟨.hbm, 29, rfl⟩
abbrev main_v15 : Ref sig .tc := ⟨.hbm, 30, rfl⟩
abbrev main_v16 : Ref sig .tc := ⟨.hbm, 31, rfl⟩
abbrev main_c_10 : Ref sig .tc := ⟨.hbm, 32, rfl⟩
abbrev main_c_11 : Ref sig .tc := ⟨.hbm, 33, rfl⟩
abbrev main_c_12 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_13 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v22 : Ref sig .tc := ⟨.hbm, 58, rfl⟩
abbrev main_v23 : Ref sig .tc := ⟨.hbm, 59, rfl⟩
abbrev main_c_14 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_c : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_0 : Ref sig .tc := ⟨.hbm, 74, rfl⟩
abbrev main_call1_v12 : Ref sig .tc := ⟨.hbm, 75, rfl⟩
abbrev main_call1_v13 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_cst_15 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v31 : Ref sig .tc := ⟨.hbm, 88, rfl⟩
abbrev main_cst_16 : Ref sig .tc := ⟨.hbm, 89, rfl⟩
abbrev main_v32 : Ref sig .tc := ⟨.hbm, 90, rfl⟩
abbrev main_cst_17 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_cst_18 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c128_i32 : BitVec 32 := 128#32
  let v18 : BitVec 32 := Scalar.muli v17 c128_i32
  let c0_i32_22 : BitVec 32 := 0#32
  ![v18.toNat, 0]
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_18 : BitVec 32 := 1#32
  let v19 : BitVec 32 := Scalar.muli v17 c1_i32_18
  let v20 : BitVec 32 := Scalar.addi c0_i32_19 v19
  v20.toNat
def k0_dev5 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_23 : BitVec 32 := 2#32
  let v28 : BitVec 32 := Scalar.addi v2 c2_i32_23
  let c4_i32_24 : BitVec 32 := 4#32
  let v29 : BitVec 32 := Scalar.remsi v28 c4_i32_24
  let c1_i32_29 : BitVec 32 := 1#32
  let v31 : BitVec 32 := Scalar.muli v29 c1_i32_29
  let v32 : BitVec 32 := Scalar.addi c0_i32_30 v31
  v32.toNat
def k0_dev6 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_34 : BitVec 32 := 3#32
  let v40 : BitVec 32 := Scalar.addi v2 c3_i32_34
  let c4_i32_35 : BitVec 32 := 4#32
  let v41 : BitVec 32 := Scalar.remsi v40 c4_i32_35
  let c1_i32_40 : BitVec 32 := 1#32
  let v43 : BitVec 32 := Scalar.muli v41 c1_i32_40
  let v44 : BitVec 32 := Scalar.addi c0_i32_41 v43
  v44.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_69 : BitVec 32 := 128#32
  let v73 : BitVec 32 := Scalar.muli v2 c128_i32_69
  let v74 : Index := Scalar.indexCast v73
  let c0 : Index := 0#32
  ![v74.toNat, 0]
def k0_dev7 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_81 : BitVec 32 := 1#32
  let v92 : BitVec 32 := Scalar.addi v2 c1_i32_81
  let c4_i32_82 : BitVec 32 := 4#32
  let v93 : BitVec 32 := Scalar.remsi v92 c4_i32_82
  let c1_i32_86 : BitVec 32 := 1#32
  let v94 : BitVec 32 := Scalar.muli v93 c1_i32_86
  let v95 : BitVec 32 := Scalar.addi c0_i32_87 v94
  v95.toNat
def k0_dev8 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_90 : BitVec 32 := 2#32
  let v102 : BitVec 32 := Scalar.addi v2 c2_i32_90
  let c4_i32_91 : BitVec 32 := 4#32
  let v103 : BitVec 32 := Scalar.remsi v102 c4_i32_91
  let c1_i32_95 : BitVec 32 := 1#32
  let v104 : BitVec 32 := Scalar.muli v103 c1_i32_95
  let v105 : BitVec 32 := Scalar.addi c0_i32_96 v104
  v105.toNat
def k0_dev9 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_99 : BitVec 32 := 3#32
  let v112 : BitVec 32 := Scalar.addi v2 c3_i32_99
  let c4_i32_100 : BitVec 32 := 4#32
  let v113 : BitVec 32 := Scalar.remsi v112 c4_i32_100
  let c1_i32_104 : BitVec 32 := 1#32
  let v114 : BitVec 32 := Scalar.muli v113 c1_i32_104
  let v115 : BitVec 32 := Scalar.addi c0_i32_105 v114
  v115.toNat
def k0_off3 (d0 : Dev nD) (c1_i32_116 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_115 : BitVec 32 := 4#32
  let v128 : BitVec 32 := Scalar.addi v2 c4_i32_115
  let v129 : BitVec 32 := Scalar.subi v128 c1_i32_116
  let c4_i32_117 : BitVec 32 := 4#32
  let v130 : BitVec 32 := Scalar.remsi v129 c4_i32_117
  let c128_i32_121 : BitVec 32 := 128#32
  let v133 : BitVec 32 := Scalar.muli v130 c128_i32_121
  let v134 : Index := Scalar.indexCast v133
  let c0_122 : Index := 0#32
  ![v134.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S2x256x1024 : Shape := ⟨3, ![2, 256, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x16x256x256 : Shape := ⟨4, ![2, 16, 256, 256]⟩
abbrev S1x1x256x256 : Shape := ⟨4, ![1, 1, 256, 256]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 89
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x1024, .f32⟩
  | .hbm, ⟨2, _⟩ => ⟨S2x256x16x64, .f32⟩
  | .hbm, ⟨3, _⟩ => ⟨S2x256x16x64, .f32⟩
  | .hbm, ⟨4, _⟩ => ⟨S1024x512, .f32⟩
  | .hbm, ⟨5, _⟩ => ⟨S2x256x1024, .f32⟩
  | .hbm, ⟨6, _⟩ => ⟨S2x256x16x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S1x256, .i32⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S2x16x256x256, .f32⟩
  | .hbm, ⟨51, _⟩ => ⟨S_, .f32⟩
  | .hbm, ⟨52, _⟩ => ⟨S2x16x256x256, .f32⟩
  | .hbm, ⟨53, _⟩ => ⟨S2x16x256x256, .f32⟩
  | .hbm, ⟨54, _⟩ => ⟨S1x1x256x256, .i1⟩
  | .hbm, ⟨55, _⟩ => ⟨S_, .f32⟩
  | .hbm, ⟨56, _⟩ => ⟨S_, .f32⟩
  | .hbm, ⟨57, _⟩ => ⟨S2x16x256x256, .i1⟩
  | .hbm, ⟨58, _⟩ => ⟨S2x16x256x256, .f32⟩
  | .hbm, ⟨59, _⟩ => ⟨S2x16x256x256, .f32⟩
  | .hbm, ⟨60, _⟩ => ⟨S_, .f32⟩
  | .hbm, ⟨61, _⟩ => ⟨S2x16x256, .f32⟩
  | .hbm, ⟨62, _⟩ => ⟨S2x16x256x1, .f32⟩
  | .hbm, ⟨63, _⟩ => ⟨S2x16x256x256, .f32⟩
  | .hbm, ⟨64, _⟩ => ⟨S2x16x256x256, .f32⟩
  | .hbm, ⟨65, _⟩ => ⟨S2x16x256x256, .f32⟩
  | .hbm, ⟨66, _⟩ => ⟨S_, .i1⟩
  | .hbm, ⟨67, _⟩ => ⟨S256, .i1⟩
  | .hbm, ⟨68, _⟩ => ⟨S1x1x256x1, .i1⟩
  | .hbm, ⟨69, _⟩ => ⟨S_, .f32⟩
  | .hbm, ⟨70, _⟩ => ⟨S2x16x256, .f32⟩
  | .hbm, ⟨71, _⟩ => ⟨S2x16x256x1, .f32⟩
  | .hbm, ⟨72, _⟩ => ⟨S_, .f32⟩
  | .hbm, ⟨73, _⟩ => ⟨S_, .f32⟩
  | .hbm, ⟨74, _⟩ => ⟨S2x16x256x1, .i1⟩
  | .hbm, ⟨75, _⟩ => ⟨S2x16x256x1, .f32⟩
  | .hbm, ⟨76, _⟩ => ⟨S2x16x256x1, .f32⟩
  | .hbm, ⟨77, _⟩ => ⟨S2x16x256x256, .f32⟩
  | .hbm, ⟨78, _⟩ => ⟨S2x16x256x256, .f32⟩
  | .hbm, ⟨79, _⟩ => ⟨S1x1x256x1, .i1⟩
  | .hbm, ⟨80, _⟩ => ⟨S_, .f32⟩
  | .hbm, ⟨81, _⟩ => ⟨S_, .f32⟩
  | .hbm, ⟨82, _⟩ => ⟨S2x16x256x256, .i1⟩
  | .hbm, ⟨83, _⟩ => ⟨S2x16x256x256, .f32⟩
  | .hbm, ⟨84, _⟩ => ⟨S2x16x256x256, .f32⟩
  | .hbm, ⟨85, _⟩ => ⟨S2x16x64x256, .f32⟩
  | .hbm, ⟨86, _⟩ => ⟨S2x256x16x64, .f32⟩
  | .hbm, ⟨87, _⟩ => ⟨S2x256x1024, .f32⟩
  | .hbm, ⟨88, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.IdealProtocol.lean ====
/-
The signalling protocol of the kernel's call, one round.

Four devices. On each: a barrier cell, and four families of three copy cells — the send and receive cells of the
reduce-scatter, the send and receive cells of the all-gather. Copy `k` of either phase goes from a device to the device
`k + 1` places after it. A device may write into another's slots only after that device's signal, which hands the slots
over. A copy's landing hands the slot back to its owner with the rows it holds; a copy's departure hands the rows it
read back to the sender.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Launch
public import Idealize.ShloMosaic.Lib.Pipeline.Kit
public import Idealize.ShloMosaic.Lib.Pipeline.RegionTalk
public import Idealize.ShloMosaic.Lib.Memref
public import Idealize.ShloMosaic.Lib.Writes
public import Idealize.ShloMosaic.Lib.Tactic

@[expose] public section

set_option maxRecDepth 16384

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's resource: rounds on cells with three duty names. -/
abbrev UT : Type := URounds (GSem nD τ sig) (Fin 3)
/-- The pipeline's resource beside the protocol's. -/
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

/-! ## The devices -/

/-- The device `k + 1` places after `c`. -/
def nx (c : Dev nD) (k : Fin 3) : Dev nD := ⟨(c.val + k.val + 1) % 4, Nat.mod_lt _ (by decide)⟩
/-- The device `k + 1` places before `c`. -/
def pv (c : Dev nD) (k : Fin 3) : Dev nD := ⟨(c.val + 3 - k.val) % 4, Nat.mod_lt _ (by decide)⟩
/-- The name of the distance back: `k + 1` places on and `rev k + 1` places on come round to the start. -/
def rv (k : Fin 3) : Fin 3 := ⟨2 - k.val, by omega⟩

theorem pv_nx (c : Dev nD) (k : Fin 3) : pv (nx c k) k = c := by revert c k; decide
theorem nx_pv (c : Dev nD) (k : Fin 3) : nx (pv c k) k = c := by revert c k; decide
theorem nx_rv (c : Dev nD) (k : Fin 3) : nx (nx c k) (rv k) = c := by revert c k; decide
theorem rv_rv (k : Fin 3) : rv (rv k) = k := by revert k; decide

/-! ## The memrefs -/

abbrev xM : Memref sig .tc .vmem S512x512 .f32 := Memref.whole cc0_stg0_0
abbrev oM : Memref sig .tc .vmem S512x512 .f32 := Memref.whole cc0_stg1_0
abbrev rM : Memref sig .tc .vmem S3x128x512 .f32 := Memref.whole cc0_scratch0
abbrev aM : Memref sig .tc .vmem S128x512 .f32 := Memref.whole cc0_scratch1
abbrev gM : Memref sig .tc .vmem S3x128x512 .f32 := Memref.whole cc0_scratch2

theorem rowInb (e : Dev nD) : ∀ a, (![128 * e.val, 0] : Fin 2 → ℕ) a + S128x512.size a ≤ S512x512.size a := by
  revert e; decide
/-- Row block `e` of the 512 rows. -/
abbrev rowR (e : Dev nD) : Rect S512x512 := Rect.unit (s := S512x512) ![128 * e.val, 0] S128x512.size (rowInb e)
/-- Row block `e` of the staged partial. -/
abbrev rowM (e : Dev nD) : Memref sig .tc .vmem S128x512 .f32 := xM.slice (rowR e) (fun _ => rfl)

theorem slotInb (k : Fin 3) : ∀ a, (![k.val, 0, 0] : Fin 3 → ℕ) a + S1x128x512.size a ≤ S3x128x512.size a := by
  revert k; decide
/-- Slot `k` of a buffer of three blocks. -/
abbrev slotR (k : Fin 3) : Rect S3x128x512 := Rect.unit (s := S3x128x512) ![k.val, 0, 0] S1x128x512.size (slotInb k)
/-- Slot `k` of the reduce-scatter's landing buffer. -/
abbrev rsM (k : Fin 3) : Memref sig .tc .vmem S128x512 .f32 :=
  (rM.slice (slotR k) (fun _ => rfl)).squeeze S128x512 squeezes_S1x128x512_S128x512
/-- Slot `k` of the all-gather's landing buffer. -/
abbrev agM (k : Fin 3) : Memref sig .tc .vmem S128x512 .f32 :=
  (gM.slice (slotR k) (fun _ => rfl)).squeeze S128x512 squeezes_S1x128x512_S128x512

/-! ## The cells -/

abbrev barS : Sem sig := (SemArray.scalar (sig.barrier 0 rfl) : Sems sig S_).sem
/-- The call's twelve copy semaphores. -/
abbrev dS (j : Fin 12) : DmaSem sig := ⟨2 + j.val, by have := j.isLt; show 2 + j.val < 14; omega⟩
/-- Send semaphore `k` of the reduce-scatter, -/
abbrev jrs (k : Fin 3) : Fin 12 := ⟨k.val, by omega⟩
/-- its receive semaphore, -/
abbrev jrr (k : Fin 3) : Fin 12 := ⟨3 + k.val, by omega⟩
/-- send semaphore `k` of the all-gather, -/
abbrev jas (k : Fin 3) : Fin 12 := ⟨6 + k.val, by omega⟩
/-- its receive semaphore. -/
abbrev jar (k : Fin 3) : Fin 12 := ⟨9 + k.val, by omega⟩

abbrev osem : Fin 12 → SemLoc sig := fun j => .dma (dS j)

abbrev barCell (c : Dev nD) : GSem nD τ sig := ((c : Thread nD τ), .reg barS)
abbrev dCell (c : Dev nD) (j : Fin 12) : GSem nD τ sig := ((c : Thread nD τ), .dma (dS j))

/-- A copy's credit. -/
abbrev N : ℕ := (rsM 0).view.dmaCredit
theorem N_pos : 0 < N := View.dmaCredit_pos _ (by decide)

theorem amt_rs (k : Fin 3) : (rsM k).view.dmaCredit = N := rfl
theorem amt_ag (k : Fin 3) : (agM k).view.dmaCredit = N := rfl
theorem amt_row (e : Dev nD) : (rowM e).view.dmaCredit = N := rfl
theorem amt_a : aM.view.dmaCredit = N := rfl

/-! ## The contents -/

/-- Row block `e` of a partial. -/
def rows (p : Vec F S512x512 .f32) (e : Dev nD) : Vec F S128x512 .f32 := fun i => p ((rowR e).emb i)

variable (P : Dev nD → Vec F S512x512 .f32)

/-- Device `e`'s reduced block: row block `e` of all four partials, its own first, then those of the devices 1, 2, 3
    places before it. -/
def red (e : Dev nD) : FVec F S128x512 .f32 :=
  addf (addf (addf (rows (P e) e : FVec F S128x512 .f32) (rows (P (pv e 0)) e)) (rows (P (pv e 1)) e)) (rows (P (pv e 2)) e)

/-- The share of the reduced block lent to copy `k`. -/
def shr : Fin 3 → PosShare TreeShare
  | 0 => fullShare.left
  | 1 => fullShare.right.left
  | 2 => fullShare.right.right

/-- A memref held whole at contents not named. -/
def anyAt (c : Dev nD) {s : Shape} (M : Memref sig .tc .vmem s .f32) : sProp 𝕄 := iprop(∃ X : Vec F s .f32, owns (c : Thread nD τ) M fullShare X)

instance anyAt_storable (c : Dev nD) {s : Shape} (M : Memref sig .tc .vmem s .f32) : BI.Storable (upEmb : UEmb _ 𝕄) (anyAt (F := F) c M) := by
  unfold anyAt; infer_instance

/-! ## The schedule -/

/-- What the signal of the device `k + 1` places after `c` hands `c`: that device's slot `k` of each landing buffer, and
    that its two receive cells `k` are open. -/
def barPay (c : Dev nD) (k : Fin 3) : sProp 𝕄 :=
  iprop(anyAt (nx c k) (rsM k) ∗ anyAt (nx c k) (agM k) ∗ reached ER (dCell (nx c k) (jrr k)) 0 ∗ reached ER (dCell (nx c k) (jar k)) 0)
def rsSendPay (c : Dev nD) (k : Fin 3) : sProp 𝕄 := owns (c : Thread nD τ) (rowM (nx c k)) fullShare (rows (P c) (nx c k))
def rsRecvPay (c : Dev nD) (k : Fin 3) : sProp 𝕄 := owns (c : Thread nD τ) (rsM k) fullShare (rows (P (pv c k)) c)
def agSendPay (c : Dev nD) (k : Fin 3) : sProp 𝕄 := owns (c : Thread nD τ) aM (shr k) (red P c)
def agRecvPay (c : Dev nD) (k : Fin 3) : sProp 𝕄 := owns (c : Thread nD τ) (agM k) fullShare (red P (pv c k))

instance barPay_storable (c : Dev nD) (k : Fin 3) : BI.Storable (upEmb : UEmb _ 𝕄) (barPay (F := F) c k) := by unfold barPay; infer_instance
instance rsSendPay_storable (c : Dev nD) (k : Fin 3) : BI.Storable (upEmb : UEmb _ 𝕄) (rsSendPay P c k) := by unfold rsSendPay; infer_instance
instance rsRecvPay_storable (c : Dev nD) (k : Fin 3) : BI.Storable (upEmb : UEmb _ 𝕄) (rsRecvPay P c k) := by unfold rsRecvPay; infer_instance
instance agSendPay_storable (c : Dev nD) (k : Fin 3) : BI.Storable (upEmb : UEmb _ 𝕄) (agSendPay P c k) := by unfold agSendPay; infer_instance
instance agRecvPay_storable (c : Dev nD) (k : Fin 3) : BI.Storable (upEmb : UEmb _ 𝕄) (agRecvPay P c k) := by unfold agRecvPay; infer_instance

/-- What copy semaphore `j` of device `c` is paid. -/
def dPay (c : Dev nD) (j : ℕ) : sProp 𝕄 :=
  if h : j < 3 then rsSendPay P c ⟨j, h⟩
  else if h : j - 3 < 3 then rsRecvPay P c ⟨j - 3, h⟩
  else if h : j - 6 < 3 then agSendPay P c ⟨j - 6, h⟩
  else if h : j - 9 < 3 then agRecvPay P c ⟨j - 9, h⟩
  else iprop(emp)

instance dPay_storable (c : Dev nD) (j : ℕ) : BI.Storable (upEmb : UEmb _ 𝕄) (dPay P c j) := by
  unfold dPay; (repeat' split) <;> infer_instance

/-- A core's payment into one of its cells, by the semaphore. -/
def locPay (c : Dev nD) (sm : SemLoc sig) (k : Fin 3) : sProp 𝕄 :=
  match sm with
  | .reg _ => barPay c k
  | .dma s => dPay P c (s.val - 2)

instance locPay_storable (c : Dev nD) (sm : SemLoc sig) (k : Fin 3) : BI.Storable (upEmb : UEmb _ 𝕄) (locPay P c sm k) := by
  unfold locPay; split <;> infer_instance

abbrev IsBar (g : GSem nD τ sig) : Prop := g.1.2 = .tc ∧ g.2 = .reg barS
abbrev IsCopy (g : GSem nD τ sig) : Prop := g.1.2 = .tc ∧ ∃ j : Fin 12, g.2 = .dma (dS j)

/-- Round 0 only: a barrier cell takes one unit from each of the other three devices, a copy cell one copy's credit. -/
def rd : Rounds.Schedule (GSem nD τ sig) (Fin 3) 𝕄 where
  duties g r := if r = 0 ∧ IsBar g then Finset.univ else if r = 0 ∧ IsCopy g then {0} else ∅
  unitless _ := False
  amount g _ _ := if g.2 = .reg barS then 1 else N
  payload g _ k := locPay P g.1.1 g.2 k
  amount_pos g _ _ _ := by
    by_cases h : g.2 = .reg barS
    · rw [if_pos h]; exact Nat.one_pos
    · rw [if_neg h]; exact N_pos

instance rd_payload_storable (g : GSem nD τ sig) (r : ℕ) (k : Fin 3) :
    BI.Storable (upEmb : UEmb _ 𝕄) ((rd (F := F) P).payload g r k) := by
  show BI.Storable upEmb (locPay P g.1.1 g.2 k); infer_instance

section Sched
variable (c : Dev nD)

theorem dma_ne_bar (s : DmaSem sig) : (SemLoc.dma s : SemLoc sig) ≠ .reg barS := fun h => by cases h

theorem duties_bar : (rd P).duties (barCell c) 0 = Finset.univ := by dsimp only [rd]; exact if_pos ⟨rfl, rfl, rfl⟩
theorem duties_d (j : Fin 12) : (rd P).duties (dCell c j) 0 = {0} := by
  dsimp only [rd]; rw [if_neg (fun h => dma_ne_bar _ h.2.2)]; exact if_pos ⟨rfl, rfl, j, rfl⟩
theorem duties_later (g : GSem nD τ sig) : ∀ r, 1 ≤ r → (rd P).duties g r = ∅ :=
  fun r hr => by dsimp only [rd]; rw [if_neg fun h => by omega, if_neg fun h => by omega]

theorem amount_bar (k : Fin 3) : (rd P).amount (barCell c) 0 k = 1 := by dsimp only [rd]; exact if_pos rfl
theorem amount_d (j : Fin 12) (k : Fin 3) : (rd P).amount (dCell c j) 0 k = N := by dsimp only [rd]; exact if_neg (dma_ne_bar _)

theorem expect_bar : (rd P).expect (barCell c) 0 = 3 := by
  unfold Schedule.expect Schedule.amountOf
  rw [duties_bar, Finset.sum_congr rfl fun d _ => amount_bar P c d, Finset.sum_const, Finset.card_univ, Fintype.card_fin, smul_eq_mul]
theorem expect_d (j : Fin 12) : (rd P).expect (dCell c j) 0 = N := by
  unfold Schedule.expect Schedule.amountOf; rw [duties_d, Finset.sum_singleton, amount_d]

theorem payload_bar (k : Fin 3) : (rd P).payload (barCell c) 0 k = barPay c k := rfl
theorem payload_rs (k d : Fin 3) : (rd P).payload (dCell c (jrs k)) 0 d = rsSendPay P c k := by
  show dPay P c (2 + k.val - 2) = _
  unfold dPay
  rw [dif_pos (by omega)]
  congr 1
  exact Fin.ext (by show 2 + k.val - 2 = k.val; omega)
theorem payload_rr (k d : Fin 3) : (rd P).payload (dCell c (jrr k)) 0 d = rsRecvPay P c k := by
  show dPay P c (2 + (3 + k.val) - 2) = _
  unfold dPay
  rw [dif_neg (by omega), dif_pos (by omega)]
  congr 1
  exact Fin.ext (by show 2 + (3 + k.val) - 2 - 3 = k.val; omega)
theorem payload_as (k d : Fin 3) : (rd P).payload (dCell c (jas k)) 0 d = agSendPay P c k := by
  show dPay P c (2 + (6 + k.val) - 2) = _
  unfold dPay
  rw [dif_neg (by omega), dif_neg (by omega), dif_pos (by omega)]
  congr 1
  exact Fin.ext (by show 2 + (6 + k.val) - 2 - 6 = k.val; omega)
theorem payload_ar (k d : Fin 3) : (rd P).payload (dCell c (jar k)) 0 d = agRecvPay P c k := by
  show dPay P c (2 + (9 + k.val) - 2) = _
  unfold dPay
  rw [dif_neg (by omega), dif_neg (by omega), dif_neg (by omega), dif_pos (by omega)]
  congr 1
  exact Fin.ext (by show 2 + (9 + k.val) - 2 - 9 = k.val; omega)

theorem sep3 (Φ : Fin 3 → sProp 𝕄) : bigSep Finset.univ Φ = iprop(Φ 0 ∗ Φ 1 ∗ Φ 2) :=
  bigSep_univ_eq_bigSepL [0, 1, 2] (by decide) (by decide) Φ

theorem rest_bar : bigSep ((rd P).duties (barCell c) 0 \ ∅) (fun k => (rd P).payload (barCell c) 0 k)
    = iprop(barPay (F := F) c 0 ∗ barPay c 1 ∗ barPay c 2) := by
  rw [Finset.sdiff_empty, duties_bar, sep3]; rfl
/-- The rest of a copy cell's round is its one payment. -/
theorem rest_d (j : Fin 12) : bigSep ((rd P).duties (dCell c j) 0 \ ∅) (fun k => (rd P).payload (dCell c j) 0 k)
    = (rd P).payload (dCell c j) 0 0 := by
  rw [Finset.sdiff_empty, duties_d, bigSep_singleton]

end Sched

/-! ## What a device owes, in the order it pays -/

/-- Payment `i` of device `c`, counted from the last: 0–2 the all-gather's copies, 3–5 the reduce-scatter's, 6–8 the
    signals, each group's distance falling. -/
def itemCell (c : Dev nD) (i : ℕ) : GSem nD τ sig :=
  if i = 0 then dCell (nx c 2) (jar 2) else if i = 1 then dCell (nx c 1) (jar 1) else if i = 2 then dCell (nx c 0) (jar 0)
  else if i = 3 then dCell (nx c 2) (jrr 2) else if i = 4 then dCell (nx c 1) (jrr 1) else if i = 5 then dCell (nx c 0) (jrr 0)
  else if i = 6 then barCell (nx c 2) else if i = 7 then barCell (nx c 1) else barCell (nx c 0)
def itemAmt (i : ℕ) : ℕ := if i < 6 then N else 1
/-- What device `c` owes with `i` payments left. -/
def rem (c : Dev nD) : ℕ → CellTallies nD τ sig Unit
  | 0 => 0
  | i + 1 => rem c i + tallyAt (itemCell c i) () (itemAmt i)

/-- All nine payments. -/
abbrev O₀ (c : Dev nD) : CellTallies nD τ sig Unit := rem c 9

theorem rem_pos {c : Dev nD} {i : ℕ} {g : GSem nD τ sig} {u : Unit} (h : 0 < rem c i g u) : ∃ j, j < i ∧ g = itemCell c j := by
  induction i with
  | zero => exact absurd h (Nat.lt_irrefl 0)
  | succ i ih =>
    unfold rem at h
    rw [Pi.add_apply, Finsupp.add_apply, tallyAt_apply] at h
    by_cases hg : g = itemCell c i ∧ u = ()
    · exact ⟨i, Nat.lt_succ_self i, hg.1⟩
    · rw [if_neg hg, Nat.add_zero] at h
      obtain ⟨j, hj, e⟩ := ih h
      exact ⟨j, Nat.lt_succ_of_lt hj, e⟩

/-- One level index at every cell of a core. -/
def L (g : GSem nD τ sig) : Finset Unit := if g.1.2 = .tc then {()} else ∅
/-- Barrier cells at 1, the reduce-scatter's receive cells at 2, the all-gather's at 3, all others at 0. -/
def lvS : SemLoc sig → ℕ
  | .reg _ => 1
  | .dma s => if s.val < 5 then 0 else if s.val < 8 then 2 else if s.val < 11 then 0 else 3
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem item_L (c : Dev nD) (i : ℕ) (u : Unit) : u ∈ L (itemCell c i) := by
  unfold itemCell; (repeat' split) <;> exact Finset.mem_singleton_self _

theorem item_lv_pos (c : Dev nD) (i : ℕ) (u : Unit) : 0 < lv (itemCell c i) u := by
  unfold itemCell; (repeat' split) <;> ((show 0 < lvS _); revert c; decide)
theorem item_lv_6 (c : Dev nD) (i : ℕ) (hi : i < 6) (u : Unit) : 1 < lv (itemCell c i) u := by
  unfold itemCell; (repeat' split) <;> first | (exfalso; omega) | ((show 1 < lvS _); revert c; decide)
theorem item_lv_3 (c : Dev nD) (i : ℕ) (hi : i < 3) (u : Unit) : 2 < lv (itemCell c i) u := by
  unfold itemCell; (repeat' split) <;> first | (exfalso; omega) | ((show 2 < lvS _); revert c; decide)

/-- A device may wait on a cell below everything it still owes. -/
theorem mayWait_rem (c : Dev nD) (sm : SemLoc sig) (i : ℕ) (h : ∀ j, j < i → lvS sm < lv (itemCell c j) ()) :
    (levAts L lv : sProp 𝕄) ⊢ MayWait (c : Thread nD τ) sm () (rem c i) :=
  MayOwe.of_cut (L := L) (lev := lv) (lvS sm) (fun p hp => by rw [Finset.mem_singleton.mp hp, L_tc]; exact Finset.mem_singleton_self _)
    (fun g u hg => by obtain ⟨j, -, rfl⟩ := rem_pos hg; exact item_L c j u)
    (fun p hp => by rw [Finset.mem_singleton.mp hp]; exact le_refl _)
    (fun g u hg => by obtain ⟨j, hj, rfl⟩ := rem_pos hg; exact h j hj)

end Cert.KernelIdeal.Talk
-- ==== Proof.IdealSteps.lean ====
/-
One rule for each kind of operation of the call's body, over ownership of row blocks and slots: a signal, the barrier
wait, a copy's issue, a copy's wait, and the loads and stores.
-/
module

public import proofs.«01_k».proof.Proof.IdealProtocol

@[expose] public section

set_option maxRecDepth 16384

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (P : Dev nD → Vec F S512x512 .f32) (K : GSem nD τ sig → ℕ)

/-! ## What every device knows throughout -/

theorem barCell_injective : Function.Injective (barCell : Dev nD → GSem nD τ sig) := fun a b h =>
  congrArg (fun g : GSem nD τ sig => g.1.1) h
theorem dCell_injective : Function.Injective (fun x : Dev nD × Fin 12 => dCell x.1 x.2) := by
  rintro ⟨a, i⟩ ⟨b, j⟩ h
  have h1 : a = b := congrArg (fun g : GSem nD τ sig => g.1.1) h
  have h2 : (SemLoc.dma (dS i) : SemLoc sig) = .dma (dS j) := congrArg Prod.snd h
  have h3 : dS i = dS j := SemLoc.dma.inj h2
  have h4 : 2 + i.val = 2 + j.val := congrArg (fun s : DmaSem sig => s.val) h3
  have h5 : i = j := Fin.ext (by omega)
  rw [h1, h5]

/-- The barrier cells. -/
def barCells : Finset (GSem nD τ sig) := Finset.univ.map ⟨barCell, barCell_injective⟩
/-- The copy cells. -/
def copyCells : Finset (GSem nD τ sig) := Finset.univ.map ⟨fun x : Dev nD × Fin 12 => dCell x.1 x.2, dCell_injective⟩

/-- Every cell's invariant, the barrier cells open, device `c`'s own copy cells open, and the levels. -/
def env (c : Dev nD) : sProp 𝕄 :=
  iprop((bigSep (barCells ∪ copyCells) fun g => cellInv ER (rd P) (K g) g)
    ∗ (bigSep barCells fun g => reached ER g 0)
    ∗ (bigSep Finset.univ fun j : Fin 12 => reached ER (dCell c j) 0)
    ∗ levAts L lv)

instance env_persistent (c : Dev nD) : BI.Persistent (env P K c) := by unfold env; infer_instance

theorem env_bar (c n : Dev nD) : env P K c ⊢ (cellInv ER (rd P) (K (barCell n)) (barCell n) : sProp 𝕄) := by
  unfold env
  refine sep_elim_left.trans (bigSep_elim (Finset.mem_union_left _ (Finset.mem_map_of_mem _ (Finset.mem_univ n))))
theorem env_copy (c n : Dev nD) (j : Fin 12) : env P K c ⊢ (cellInv ER (rd P) (K (dCell n j)) (dCell n j) : sProp 𝕄) := by
  unfold env
  refine sep_elim_left.trans (bigSep_elim (Finset.mem_union_right _
    (Finset.mem_map_of_mem ⟨fun x : Dev nD × Fin 12 => dCell x.1 x.2, dCell_injective⟩ (Finset.mem_univ (n, j)))))
theorem env_barAt (c n : Dev nD) : env P K c ⊢ (reached ER (barCell n) 0 : sProp 𝕄) := by
  unfold env
  exact sep_elim_right.trans (sep_elim_left.trans (bigSep_elim (Finset.mem_map_of_mem _ (Finset.mem_univ n))))
theorem env_own (c : Dev nD) (j : Fin 12) : env P K c ⊢ (reached ER (dCell c j) 0 : sProp 𝕄) := by
  unfold env
  exact sep_elim_right.trans (sep_elim_right.trans (sep_elim_left.trans (bigSep_elim (Finset.mem_univ j))))
theorem env_lev (c : Dev nD) : env P K c ⊢ (levAts L lv : sProp 𝕄) := by
  unfold env
  exact sep_elim_right.trans (sep_elim_right.trans sep_elim_right)

/-- What device `c` owes with `i` payments left, whatever waits it has recorded. -/
def ow (c : Dev nD) (i : ℕ) : sProp 𝕄 := iprop(∃ W, owes (c : Thread nD τ) (rem c i) W)

section Steps

variable {α : Type}

/-- A signal to the device `k + 1` places after: the slots that device's copies land in go with it. -/
theorem step_signal (c n : Dev nD) (k : Fin 3) (i k' : ℕ) (hk' : k' = 1) (hn : n = nx c k)
    (hi : itemCell c i = barCell (nx c k)) (ha : itemAmt i = 1)
    {kk : PUnit → Prog (TpuEff nD τ sig (Elt F) Λ₀ .tc) α} {Q : α → sProp 𝕄} :
    iprop(env P K c ∗ ow c (i + 1) ∗ dutyTok ER (barCell (nx c k)) 0 (rv k) ∗ anyAt c (rsM (rv k)) ∗ anyAt c (agM (rv k)))
      ⊢ iprop((ow c i -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (n : Thread nD τ) barS k') kk) Q) := by
  subst hn hk'
  unfold ow
  iintro ⟨#He, ⟨%W, HO⟩, Htok, Hr, Hg⟩ Hk
  iapply (Rounds.wp_signal 𝒱₀ ER (rd P) (c : Thread nD τ) none (dst := (nx c k : Thread nD τ)) (κ := K (barCell (nx c k)))
      (d := rv k) (by rw [duties_bar]; exact Finset.mem_univ _) (amount_bar P (nx c k) (rv k)) () (rem c i)
      (by show rem c i + tallyAt (itemCell c i) () (itemAmt i) = _; rw [hi, ha])) $$ [HO Htok Hr Hg]
  · isplitr; · iapply (env_bar P K c (nx c k)); iexact He
    isplitl [HO]; · iexact HO
    isplitl [Htok]; · iexact Htok
    isplitl [Hr Hg]
    · rw [payload_bar]; unfold barPay; rw [nx_rv]
      isplitl [Hr]; · iexact Hr
      isplitl [Hg]; · iexact Hg
      isplitr; · iapply (env_own P K c (jrr (rv k))); iexact He
      iapply (env_own P K c (jar (rv k))); iexact He
    · iapply (env_barAt P K c (nx c k)); iexact He
  iintro HO
  iapply Hk
  iexists W
  iexact HO

/-- The wait for all three signals: the other devices' slots. The barrier cell closes. -/
theorem step_barrier (c : Dev nD) (k' : ℕ) (hk' : k' = 3)
    {kk : PUnit → Prog (TpuEff nD τ sig (Elt F) Λ₀ .tc) α} {Q : α → sProp 𝕄} :
    iprop(env P K c ∗ ow c 6 ∗ cred (tallyAt (barCell c) () 3) ∗ atPos ER (barCell c) 0 ∅ 0)
      ⊢ iprop(((ow c 6 ∗ semVal (barCell c) 0 ∗ barPay c 0 ∗ barPay c 1 ∗ barPay c 2)
          -∗ wp frame (wpE (defs₀ (F := F)) 𝒱₀ (c : Thread nD τ) none) Set.univ (kk ⟨⟩) Q)
        -∗ wp frame (wpE (defs₀ (F := F)) 𝒱₀ (c : Thread nD τ) none) Set.univ (.op (.semWait barS k') kk) Q) := by
  subst hk'
  unfold ow
  iintro ⟨#He, ⟨%W, HO⟩, Hc, Hat⟩ Hk
  iapply (Rounds.wp_wait_rest_token 𝒱₀ ER (rd P) (c : Thread nD τ) none (κ := K (barCell c))
      (wpE_semWait_eq 𝒱₀ (c : Thread nD τ) none Set.univ) (Set.mem_univ _) () (O := rem c 6) (W := W) (R := 0) (m := 0) (T := ∅)
      (by rw [expect_bar])) $$ [HO Hc Hat]
  · isplitr; · iapply (env_bar P K c c); iexact He
    isplitl [Hc]; · iexact Hc
    isplitl [HO]; · iexact HO
    isplitr
    · iapply (mayWait_rem c (.reg barS) 6 fun j hj => item_lv_6 c j hj ())
      iapply (env_lev P K c); iexact He
    iexact Hat
  iintro ⟨HO, Hat, -, Hpay⟩
  ihave Hp := (Entails.of_eq (rest_bar P c)) $$ Hpay
  imod (Rounds.cell_close ER (rd P) (Set.mem_univ (K (barCell c))) (fun h => h) (R := 0 + 1) (duties_later P (barCell c))) $$ [Hat] with Hz
  · isplitr; · iapply (env_bar P K c c); iexact He
    iexact Hat
  iapply Hk
  isplitl [HO]; · iexists _; iexact HO
  isplitl [Hz]; · iexact Hz
  iexact Hp

/-- The wait for a copy: the cell's one payment. The cell closes. -/
theorem step_wait (c : Dev nD) (j : Fin 12) (i : ℕ) (hlv : ∀ i', i' < i → lvS (.dma (dS j)) < lv (itemCell c i') ())
    {X : sProp 𝕄} (hX : (rd P).payload (dCell c j) 0 0 = X)
    {sem : DmaSem sig} (hs : sem = dS j) {sp sp' : Space} {s s' : Shape} {e e' : EltTy}
    {src : Memref sig .tc sp' s' e'} {dst : Memref sig .tc sp s e} (hN : dst.view.dmaCredit = N)
    {hsrc : src.view.WordExact} {hdst : dst.view.WordExact}
    {kk : PUnit → Prog (TpuEff nD τ sig (Elt F) Λ₀ .tc) α} {Q : α → sProp 𝕄} :
    iprop(env P K c ∗ ow c i ∗ cred (tallyAt (dCell c j) () N) ∗ atPos ER (dCell c j) 0 ∅ 0)
      ⊢ iprop(((ow c i ∗ semVal (dCell c j) 0 ∗ X)
          -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sem src dst hsrc hdst) kk) Q) := by
  subst hs hX
  unfold ow
  iintro ⟨#He, ⟨%W, HO⟩, Hc, Hat⟩ Hk
  iapply (Rounds.wp_wait_rest_token 𝒱₀ ER (rd P) (c : Thread nD τ) none (κ := K (dCell c j))
      (wpE_waitDma2_eq 𝒱₀ (c : Thread nD τ) none Set.univ) (Set.mem_univ _) () (O := rem c i) (W := W) (R := 0) (m := 0) (T := ∅)
      (by rw [Nat.zero_add, expect_d, hN])) $$ [HO Hc Hat]
  · isplitr; · iapply (env_copy P K c c j); iexact He
    isplitl [Hc]; · rw [hN]; iexact Hc
    isplitl [HO]; · iexact HO
    isplitr
    · iapply (mayWait_rem c (.dma (dS j)) i hlv)
      iapply (env_lev P K c); iexact He
    iexact Hat
  iintro ⟨HO, Hat, -, Hpay⟩
  ihave Hp := (Entails.of_eq (rest_d P c j)) $$ Hpay
  imod (Rounds.cell_close ER (rd P) (Set.mem_univ (K (dCell c j))) (fun h => h) (R := 0 + 1) (duties_later P (dCell c j))) $$ [Hat] with Hz
  · isplitr; · iapply (env_copy P K c c j); iexact He
    iexact Hat
  iapply Hk
  isplitl [HO]; · iexists _; iexact HO
  isplitl [Hz]; · iexact Hz
  iexact Hp

/-- A copy's issue: the rows read are lent to the send cell, the slot they land in goes to the receive cell of the device
    addressed. -/
theorem step_send (c n t : Dev nD) (hn : n = t) (jS jR : Fin 12) (i : ℕ)
    (hi : itemCell c i = dCell t jR) (ha : itemAmt i = N)
    {q : PosShare TreeShare} {V : Vec F S128x512 .f32}
    {src src' : Memref sig .tc .vmem S128x512 .f32} (hsr : src = src') {dst : Memref sig .tc .vmem S128x512 .f32} {sS sR : DmaSem sig} (hsS : sS = dS jS) (hsR : sR = dS jR)
    (hN : dst.view.dmaCredit = N)
    (hp₁ : (owns (c : Thread nD τ) src' q V : sProp 𝕄) ⊢ (rd P).payload (dCell c jS) 0 0)
    (hp₂ : (owns (t : Thread nD τ) dst fullShare V : sProp 𝕄) ⊢ (rd P).payload (dCell t jR) 0 0)
    {hsc : (dst : Memref sig (Dev.tc n : Thread nD τ).2.kind .vmem S128x512 .f32).view.ref.isScScratch = false}
    {hsrc : src.view.WordExact} {hdst : dst.view.WordExact}
    {hsem : DmaTarget.Typed .vmem (.dma sR) (.remote (Dev.tc n : Thread nD τ) dst (.dma sS) hsc)}
    {kk : PUnit → Prog (TpuEff nD τ sig (Elt F) Λ₀ .tc) α} {Q : α → sProp 𝕄} :
    iprop(env P K c ∗ reached ER (dCell t jR) 0 ∗ owns (c : Thread nD τ) src' q V ∗ anyAt t dst ∗ ow c (i + 1)
        ∗ dutyTok ER (dCell c jS) 0 0 ∗ dutyTok ER (dCell t jR) 0 0)
      ⊢ iprop(((ow c i ∗ cred (tallyAt (dCell c jS) () N))
          -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc n : Thread nD τ) dst (.dma sS) hsc) (.dma sR) hsrc hdst hsem) kk) Q) := by
  have hN' : dst.view.amount (SemLoc.dma sR : SemLoc sig) = N := hN
  subst hn hsS hsR hsr
  unfold owns at hp₁ hp₂
  unfold owns anyAt owns ow
  iintro ⟨#He, #Hr, ⟨%fs, %hfs, Hs⟩, ⟨%X, %fd, %hfd, Hd⟩, ⟨%W, HO⟩, Ht₁, Ht₂⟩ Hk
  iapply (Rounds.wp_send_pointsTo 𝒱₀ ER (rd P) (c : Thread nD τ) none (κ₁ := K (dCell c jS)) (κ₂ := K (dCell n jR))
      (r₁ := 0) (r₂ := 0) (d₁ := 0) (d₂ := 0) (fd := fd) (fs := fs) (q := q)
      (by rw [duties_d]; exact Finset.mem_singleton_self _) (by rw [duties_d]; exact Finset.mem_singleton_self _)
      () () N hN' (amount_d P c jS 0) (amount_d P n jR 0) (rem c i)
      (by show rem c i + tallyAt (itemCell c i) () (itemAmt i) = _; rw [hi, ha]) (W := W)
      (by
        refine BIBase.Entails.trans ?_ hp₁
        iintro H; iexists fs; isplitr
        · ipureintro; exact hfs
        · iexact H)
      (by
        refine BIBase.Entails.trans ?_ hp₂
        iintro H; iexists (dst.view.write (Elt F) fd (src.view.read (Elt F) fs) Finset.univ); isplitr
        · ipureintro; exact (View.read_write_univ (Val := Elt F) (v := dst.view) fd (src.view.read (Elt F) fs)).trans hfs
        · iexact H)) $$ [Hs Hd HO Ht₁ Ht₂]
  · isplitr; · iapply (env_copy P K c c jS); iexact He
    isplitr; · iapply (env_copy P K c n jR); iexact He
    isplitl [Hs]; · iexact Hs
    isplitl [Hd]; · iexact Hd
    isplitl [HO]; · iexact HO
    isplitl [Ht₁]; · iexact Ht₁
    isplitr; · iapply (env_own P K c jS); iexact He
    isplitl [Ht₂]; · iexact Ht₂
    iexact Hr
  iintro ⟨Hc, HO⟩
  iapply Hk
  isplitl [HO]; · iexists W; iexact HO
  iexact Hc

/-! ## Loads and stores -/

/-- A load of a row block of the partial. -/
theorem step_load_row (c e : Dev nD) {off : Fin 2 → ℕ} (ho : off = ![128 * e.val, 0]) {inb : ∀ a, off a + S128x512.size a ≤ S512x512.size a}
    {q : PosShare TreeShare} {V : Vec F S128x512 .f32} {hl : xM.view.LoadsAt (Rect.unit (s := S512x512) off S128x512.size inb).toLoadRect}
    {kk : Vec F S128x512 .f32 → Prog (TpuEff nD τ sig (Elt F) Λ₀ .tc) α} {Q : α → sProp 𝕄} :
    (owns (c : Thread nD τ) (rowM e) q V : sProp 𝕄)
      ⊢ iprop((owns (c : Thread nD τ) (rowM e) q V -∗ wp frame (wpE (defs₀ (F := F)) 𝒱₀ (c : Thread nD τ) none) Set.univ (kk V) Q)
        -∗ wp frame (wpE (defs₀ (F := F)) 𝒱₀ (c : Thread nD τ) none) Set.univ
            (.op (.load xM (Rect.unit (s := S512x512) off S128x512.size inb).toLoadRect hl) kk) Q) := by
  subst ho
  unfold owns
  iintro ⟨%f, %hf, H⟩ Hk
  iapply (wp_load_rect 𝒱₀ (c : Thread nD τ) none Set.univ (m := xM) (r := rowR e) (subset_refl _)) $$ H
  iintro H
  rw [show (xM.access (rowR e)).read (Elt F) f = V from hf]
  iapply Hk
  iexists f
  isplitr; · ipureintro; exact hf
  iexact H

/-- A load of a slot reads the block it holds, up to the leading unit axis. -/
theorem step_load_slot (c : Dev nD) (M : Memref sig .tc .vmem S3x128x512 .f32) (k : Fin 3)
    {q : PosShare TreeShare} {V : Vec F S128x512 .f32} {hl : M.view.LoadsAt (slotR k).toLoadRect}
    {kk : Vec F S1x128x512 .f32 → Prog (TpuEff nD τ sig (Elt F) Λ₀ .tc) α} {Q : α → sProp 𝕄} :
    (owns (c : Thread nD τ) ((M.slice (slotR k) (fun _ => rfl)).squeeze S128x512 squeezes_S1x128x512_S128x512) q V : sProp 𝕄)
      ⊢ iprop((∀ w : Vec F S1x128x512 .f32, ⌜shapeCast S128x512 w shapeCasts_S1x128x512_S128x512 = V⌝
          -∗ owns (c : Thread nD τ) ((M.slice (slotR k) (fun _ => rfl)).squeeze S128x512 squeezes_S1x128x512_S128x512) q V
          -∗ wp frame (wpE (defs₀ (F := F)) 𝒱₀ (c : Thread nD τ) none) Set.univ (kk w) Q)
        -∗ wp frame (wpE (defs₀ (F := F)) 𝒱₀ (c : Thread nD τ) none) Set.univ (.op (.load M (slotR k).toLoadRect hl) kk) Q) := by
  unfold owns
  iintro ⟨%f, %hf, H⟩ Hk
  iapply (wp_load_rect 𝒱₀ (c : Thread nD τ) none Set.univ (m := M) (r := slotR k)
    (le_of_eq (View.set_reshape (M.access (slotR k)) _).symm)) $$ H
  iintro H
  iapply Hk $$ %_ [] [H]
  · ipureintro; exact hf
  · iexists f
    isplitr; · ipureintro; exact hf
    iexact H

/-- The result's staging buffer after a list of row blocks stored over contents `f`. -/
def outAt (c : Dev nD) (f : Buf (Elt F) ((c : Thread nD τ).loc cc0_stg1_0)) (Lw : List (View.Piece (Elt F) S512x512 .f32)) : sProp 𝕄 :=
  ((c : Thread nD τ).loc cc0_stg1_0) ↦{fullShare} (oM.view.writes (Elt F) f Lw)

/-- A load of a row block of the result, its value unused, and a store of it. -/
theorem step_store_row (c e : Dev nD) {off : Fin 2 → ℕ} (ho : off = ![128 * e.val, 0]) {inb inb' : ∀ a, off a + S128x512.size a ≤ S512x512.size a}
    {f : Buf (Elt F) ((c : Thread nD τ).loc cc0_stg1_0)} {Lw : List (View.Piece (Elt F) S512x512 .f32)}
    {w V : Vec F S128x512 .f32} (hw : w = V) {hl : oM.view.LoadsAt (Rect.unit (s := S512x512) off S128x512.size inb).toLoadRect}
    {hx : (oM.access (Rect.unit (s := S512x512) off S128x512.size inb')).Stores Finset.univ} {hm}
    {kk : PUnit → Prog (TpuEff nD τ sig (Elt F) Λ₀ .tc) α} {Q : α → sProp 𝕄} :
    (outAt c f Lw : sProp 𝕄)
      ⊢ iprop((outAt c f (⟨rowR e, V⟩ :: Lw) -∗ wp frame (wpE (defs₀ (F := F)) 𝒱₀ (c : Thread nD τ) none) Set.univ (kk ⟨⟩) Q)
        -∗ wp frame (wpE (defs₀ (F := F)) 𝒱₀ (c : Thread nD τ) none) Set.univ
            (.op (.load oM (Rect.unit (s := S512x512) off S128x512.size inb).toLoadRect hl) fun _ =>
              .op (.store oM (Rect.unit (s := S512x512) off S128x512.size inb') w Finset.univ hx hm) kk) Q) := by
  subst ho hw
  unfold outAt
  iintro H Hk
  iapply (wp_load 𝒱₀ (c : Thread nD τ) none Set.univ (m := oM) (Finset.subset_univ _)) $$ H
  iintro H
  iapply (wp_store 𝒱₀ (c : Thread nD τ) none Set.univ (m := oM) (r := rowR e) (Mk := Finset.univ) (Finset.subset_univ _)) $$ H
  iintro H
  iapply Hk
  iexact H

theorem zeroOff : (![0, 0] : Fin 2 → ℕ) = fun _ => 0 := funext fun a => by fin_cases a <;> rfl

/-- A load of the reduced block's buffer, its value unused, and a store of all of it. -/
theorem step_store_block (c : Dev nD) {inb inb' : ∀ a, (![0, 0] : Fin 2 → ℕ) a + S128x512.size a ≤ S128x512.size a}
    {w V : Vec F S128x512 .f32} (hw : w = V) {hl : aM.view.LoadsAt (Rect.unit (s := S128x512) ![0, 0] S128x512.size inb).toLoadRect}
    {hx : (aM.access (Rect.unit (s := S128x512) ![0, 0] S128x512.size inb')).Stores Finset.univ} {hm}
    {kk : PUnit → Prog (TpuEff nD τ sig (Elt F) Λ₀ .tc) α} {Q : α → sProp 𝕄} :
    (anyAt c aM : sProp 𝕄)
      ⊢ iprop((owns (c : Thread nD τ) aM fullShare V -∗ wp frame (wpE (defs₀ (F := F)) 𝒱₀ (c : Thread nD τ) none) Set.univ (kk ⟨⟩) Q)
        -∗ wp frame (wpE (defs₀ (F := F)) 𝒱₀ (c : Thread nD τ) none) Set.univ
            (.op (.load aM (Rect.unit (s := S128x512) ![0, 0] S128x512.size inb).toLoadRect hl) fun _ =>
              .op (.store aM (Rect.unit (s := S128x512) ![0, 0] S128x512.size inb') w Finset.univ hx hm) kk) Q) := by
  subst hw
  unfold anyAt owns
  iintro ⟨%X, %f, %hf, H⟩ Hk
  rw [show aM.view.set = Finset.univ from View.set_whole _]
  iapply (wp_load 𝒱₀ (c : Thread nD τ) none Set.univ (m := aM) (Finset.subset_univ _)) $$ H
  iintro H
  iapply (wp_store 𝒱₀ (c : Thread nD τ) none Set.univ (m := aM)
    (r := Rect.unit (s := S128x512) ![0, 0] S128x512.size inb') (Mk := Finset.univ) (Finset.subset_univ _)) $$ H
  iintro H
  iapply Hk
  iexists _
  isplitr [H]
  swap; · iexact H
  ipureintro
  rw [show (aM.access (Rect.unit (s := S128x512) ![0, 0] S128x512.size inb')).write (Elt F) f w Finset.univ = w from
    Memref.write_access_unit_zero_univ (Elt F) cc0_scratch1 zeroOff _ f w]
  exact View.read_whole _ _

end Steps

end Cert.KernelIdeal.Talk
-- ==== Proof.IdealPieces.lean ====
/-
The buffers of one device cut into the pieces the copies move, and put together again.
-/
module

public import proofs.«01_k».proof.Proof.IdealSteps

@[expose] public section

set_option maxRecDepth 16384

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A buffer of three slots -/

/-- Contents not named are a points-to at some contents. -/
theorem anyAt_pts (c : Dev nD) {s : Shape} (M : Memref sig .tc .vmem s .f32) :
    (anyAt c M : sProp 𝕄) ⊢ iprop(∃ f : M.view.ty.Contents (Elt F), M.view.loc (c : Thread nD τ) ↦[M.view.set]{fullShare} f) := by
  unfold anyAt owns
  iintro ⟨%X, %f, -, H⟩
  iexists f
  iexact H
theorem pts_anyAt (c : Dev nD) {s : Shape} (M : Memref sig .tc .vmem s .f32) :
    iprop(∃ f : M.view.ty.Contents (Elt F), M.view.loc (c : Thread nD τ) ↦[M.view.set]{fullShare} f) ⊢ (anyAt c M : sProp 𝕄) := by
  unfold anyAt
  iintro ⟨%f, H⟩
  iexists M.view.read (Elt F) f
  iapply (owns_intro (c : Thread nD τ) M fullShare f)
  iexact H

/-- Slot `k` of `M`, the leading axis dropped. -/
abbrev slotM (M : Memref sig .tc .vmem S3x128x512 .f32) (k : Fin 3) : Memref sig .tc .vmem S128x512 .f32 :=
  (M.slice (slotR k) (fun _ => rfl)).squeeze S128x512 squeezes_S1x128x512_S128x512

theorem slotM_set (M : Memref sig .tc .vmem S3x128x512 .f32) (k : Fin 3) : (slotM M k).view.set = (slotR k).set.map M.view.emb :=
  (View.set_reshape (M.view.slice (slotR k)) _).trans (View.set_slice _ _)

theorem slot_disj (k k' : Fin 3) (h : k ≠ k') : Disjoint (slotR k).set (slotR k').set :=
  Rect.unit_disjoint 0 (by
    have : k.val ≠ k'.val := fun e => h (Fin.ext e)
    show k.val + 1 ≤ k'.val ∨ k'.val + 1 ≤ k.val
    omega)

theorem slot_cover (i : S3x128x512.Idx) : ∃ k : Fin 3, i ∈ (slotR k).set := by
  refine ⟨⟨(i 0).val, (i 0).isLt⟩, Rect.mem_set_unit.mpr fun a => ?_⟩
  have h := (i a).isLt
  match a with
  | ⟨0, _⟩ => exact ⟨le_refl _, Nat.lt_succ_self _⟩
  | ⟨1, _⟩ => exact ⟨Nat.zero_le _, by simpa using h⟩
  | ⟨2, _⟩ => exact ⟨Nat.zero_le _, by simpa using h⟩

theorem three : ∀ k : Fin 3, k = 0 ∨ k = 1 ∨ k = 2 := by decide

theorem slots_set (M : Memref sig .tc .vmem S3x128x512 .f32) :
    M.view.set = (slotM M 0).view.set ∪ ((slotM M 1).view.set ∪ (slotM M 2).view.set) := by
  rw [slotM_set, slotM_set, slotM_set]
  ext x
  simp only [Finset.mem_union, View.set, Finset.mem_map, Finset.mem_univ, true_and]
  constructor
  · rintro ⟨i, rfl⟩
    obtain ⟨k, hk⟩ := slot_cover i
    have hk3 : k = 0 ∨ k = 1 ∨ k = 2 := three k
    rcases hk3 with rfl | rfl | rfl
    · exact Or.inl ⟨i, hk, rfl⟩
    · exact Or.inr (Or.inl ⟨i, hk, rfl⟩)
    · exact Or.inr (Or.inr ⟨i, hk, rfl⟩)
  · rintro (⟨i, -, h⟩ | ⟨i, -, h⟩ | ⟨i, -, h⟩) <;> exact ⟨i, h⟩

theorem slotM_disj (M : Memref sig .tc .vmem S3x128x512 .f32) (k k' : Fin 3) (h : k ≠ k') :
    Disjoint (slotM M k).view.set (slotM M k').view.set := by
  rw [slotM_set, slotM_set]; exact (Finset.disjoint_map _).mpr (slot_disj k k' h)

theorem slots_split (c : Dev nD) (M : Memref sig .tc .vmem S3x128x512 .f32) :
    (anyAt c M : sProp 𝕄) ⊢ iprop(anyAt c (slotM M 0) ∗ anyAt c (slotM M 1) ∗ anyAt c (slotM M 2)) := by
  have hd : Disjoint (slotM M 0).view.set ((slotM M 1).view.set ∪ (slotM M 2).view.set) :=
    Finset.disjoint_union_right.mpr ⟨slotM_disj M 0 1 (by decide), slotM_disj M 0 2 (by decide)⟩
  refine (anyAt_pts c M).trans ?_
  rw [slots_set M]
  iintro ⟨%f, H⟩
  ihave H' := (pointsTo_union hd).1 $$ H
  icases H' with ⟨H0, H⟩
  ihave H' := (pointsTo_union (slotM_disj M 1 2 (by decide))).1 $$ H
  icases H' with ⟨H1, H2⟩
  isplitl [H0]; · iapply (pts_anyAt c (slotM M 0)); iexists f; iexact H0
  isplitl [H1]; · iapply (pts_anyAt c (slotM M 1)); iexists f; iexact H1
  iapply (pts_anyAt c (slotM M 2)); iexists f; iexact H2

theorem slots_join (c : Dev nD) (M : Memref sig .tc .vmem S3x128x512 .f32) :
    iprop(anyAt c (slotM M 0) ∗ anyAt c (slotM M 1) ∗ anyAt c (slotM M 2)) ⊢ (anyAt c M : sProp 𝕄) := by
  have hd : Disjoint (slotM M 0).view.set ((slotM M 1).view.set ∪ (slotM M 2).view.set) :=
    Finset.disjoint_union_right.mpr ⟨slotM_disj M 0 1 (by decide), slotM_disj M 0 2 (by decide)⟩
  iintro ⟨H0, H1, H2⟩
  ihave H0' := (anyAt_pts c (slotM M 0)) $$ H0
  ihave H1' := (anyAt_pts c (slotM M 1)) $$ H1
  ihave H2' := (anyAt_pts c (slotM M 2)) $$ H2
  icases H0' with ⟨%f0, H0⟩
  icases H1' with ⟨%f1, H1⟩
  icases H2' with ⟨%f2, H2⟩
  ihave H := (pointsTo_join (ℓ := M.view.loc (c : Thread nD τ)) (I := (slotM M 1).view.set) (J := (slotM M 2).view.set) (slotM_disj M 1 2 (by decide))) $$ [H1 H2]
  · isplitl [H1]; · iexact H1
    iexact H2
  ihave H := (pointsTo_join (ℓ := M.view.loc (c : Thread nD τ)) (I := (slotM M 0).view.set) hd) $$ [H0 H]
  · isplitl [H0]; · iexact H0
    iexact H
  iapply (pts_anyAt c M)
  rw [slots_set M]
  iexists _
  iexact H

/-! ## The reduced block lent three times -/

theorem shares_split (c : Dev nD) (V : Vec F S128x512 .f32) :
    (owns (c : Thread nD τ) aM fullShare V : sProp 𝕄)
      ⊢ iprop(owns (c : Thread nD τ) aM (shr 0) V ∗ owns (c : Thread nD τ) aM (shr 1) V ∗ owns (c : Thread nD τ) aM (shr 2) V) := by
  rw [owns_whole, owns_whole, owns_whole, owns_whole]
  iintro H
  ihave H' := (pointsTo_share (PosShare.mem_left_op_right fullShare)).1 $$ H
  icases H' with ⟨H0, H⟩
  ihave H' := (pointsTo_share (PosShare.mem_left_op_right fullShare.right)).1 $$ H
  icases H' with ⟨H1, H2⟩
  isplitl [H0]; · iexact H0
  isplitl [H1]; · iexact H1
  iexact H2

theorem shares_join (c : Dev nD) (V : Vec F S128x512 .f32) :
    iprop(owns (c : Thread nD τ) aM (shr 0) V ∗ owns (c : Thread nD τ) aM (shr 1) V ∗ owns (c : Thread nD τ) aM (shr 2) V)
      ⊢ (owns (c : Thread nD τ) aM fullShare V : sProp 𝕄) := by
  rw [owns_whole, owns_whole, owns_whole, owns_whole]
  iintro ⟨H0, H1, H2⟩
  iapply (pointsTo_share (PosShare.mem_left_op_right fullShare)).2
  isplitl [H0]; · iexact H0
  iapply (pointsTo_share (PosShare.mem_left_op_right fullShare.right)).2
  isplitl [H1]; · iexact H1
  iexact H2

/-! ## The partial by row blocks -/

theorem row_disj (e e' : Dev nD) (h : e ≠ e') : Disjoint (rowR e).set (rowR e').set :=
  Rect.unit_disjoint 0 (by
    have : e.val ≠ e'.val := fun x => h (Fin.ext x)
    show 128 * e.val + 128 ≤ 128 * e'.val ∨ 128 * e'.val + 128 ≤ 128 * e.val
    omega)

/-- The row block a row is in. -/
def rowOf (i : S512x512.Idx) : Dev nD := ⟨(i 0).val / 128, by
  have h : (i 0).val < 512 := (i 0).isLt
  show (i 0).val / 128 < 4
  omega⟩

theorem row_mem (i : S512x512.Idx) : i ∈ (rowR (rowOf i)).set := by
  refine Rect.mem_set_unit.mpr fun a => ?_
  match a with
  | ⟨0, _⟩ =>
    show 128 * ((i 0).val / 128) ≤ (i 0).val ∧ (i 0).val < 128 * ((i 0).val / 128) + 128
    omega
  | ⟨1, h⟩ => exact ⟨Nat.zero_le _, by have := (i ⟨1, h⟩).isLt; simpa using this⟩

theorem row_cover : (Finset.univ : Finset (Dev nD)).biUnion (fun e => (rowR e).set) = Finset.univ :=
  Finset.eq_univ_iff_forall.mpr fun i => Finset.mem_biUnion.mpr ⟨rowOf i, Finset.mem_univ _, row_mem i⟩

/-- The four devices counted round from `c`. -/
theorem around (c : Dev nD) (Φ : Dev nD → sProp 𝕄) :
    bigSep Finset.univ Φ = iprop(Φ c ∗ Φ (nx c 0) ∗ Φ (nx c 1) ∗ Φ (nx c 2)) :=
  bigSep_univ_eq_bigSepL [c, nx c 0, nx c 1, nx c 2] (by revert c; decide) (by revert c; decide) Φ

theorem rows_split (c : Dev nD) (p : Vec F S512x512 .f32) :
    (owns (c : Thread nD τ) xM fullShare p : sProp 𝕄)
      ⊢ iprop(owns (c : Thread nD τ) (rowM c) fullShare (rows p c) ∗ owns (c : Thread nD τ) (rowM (nx c 0)) fullShare (rows p (nx c 0))
        ∗ owns (c : Thread nD τ) (rowM (nx c 1)) fullShare (rows p (nx c 1)) ∗ owns (c : Thread nD τ) (rowM (nx c 2)) fullShare (rows p (nx c 2))) := by
  refine (owns_rects (c : Thread nD τ) xM fullShare rowR (fun _ _ => rfl) row_disj row_cover p).trans ?_
  rw [around c]
  exact .rfl

theorem rows_join (c : Dev nD) (p : Vec F S512x512 .f32) :
    iprop(owns (c : Thread nD τ) (rowM c) fullShare (rows p c) ∗ owns (c : Thread nD τ) (rowM (nx c 0)) fullShare (rows p (nx c 0))
        ∗ owns (c : Thread nD τ) (rowM (nx c 1)) fullShare (rows p (nx c 1)) ∗ owns (c : Thread nD τ) (rowM (nx c 2)) fullShare (rows p (nx c 2)))
      ⊢ (owns (c : Thread nD τ) xM fullShare p : sProp 𝕄) := by
  refine BIBase.Entails.trans ?_ (owns_of_rects (c : Thread nD τ) xM fullShare rowR (fun _ _ => rfl) row_disj row_cover p)
  rw [around c]
  exact .rfl

/-! ## The result -/

variable (P : Dev nD → Vec F S512x512 .f32)

/-- The result: row block `e` is device `e`'s reduced block. -/
def total : Vec F S512x512 .f32 := fun i => red P (rowOf i) (fun a => match a with
  | ⟨0, _⟩ => (⟨(i 0).val % 128, Nat.mod_lt _ (by decide)⟩ : Fin 128)
  | ⟨1, _⟩ => (i 1 : Fin 512))

theorem total_row (e : Dev nD) (x : S128x512.Idx) : red P e x = total P ((rowR e).emb x) := by
  have h0 : (x 0).val < 128 := (x 0).isLt
  have hv0 : ((rowR e).emb x 0).val = 128 * e.val + 1 * (x 0).val := rfl
  have hv1 : ((rowR e).emb x 1).val = 0 + 1 * (x 1).val := rfl
  have he : rowOf ((rowR e).emb x) = e := Fin.ext (by
    show ((rowR e).emb x 0).val / 128 = e.val
    rw [hv0]; omega)
  unfold total
  rw [he]
  congr 1
  funext a
  match a with
  | ⟨0, _⟩ => exact Fin.ext (by show (x 0).val = ((rowR e).emb x 0).val % 128; rw [hv0]; omega)
  | ⟨1, _⟩ => exact Fin.ext (by show (x 1).val = ((rowR e).emb x 1).val; rw [hv1]; omega)

theorem back : ∀ c e : Dev nD, e = c ∨ e = pv c 0 ∨ e = pv c 1 ∨ e = pv c 2 := by decide

/-- The four blocks stored are the whole result. -/
theorem out_total (c : Dev nD) (f : Buf (Elt F) ((c : Thread nD τ).loc cc0_stg1_0)) :
    (outAt c f [⟨rowR (pv c 2), red P (pv c 2)⟩, ⟨rowR (pv c 1), red P (pv c 1)⟩, ⟨rowR (pv c 0), red P (pv c 0)⟩, ⟨rowR c, red P c⟩] : sProp 𝕄)
      ⊢ owns (c : Thread nD τ) oM fullShare (total P) := by
  have hG : oM.view.read (Elt F) (oM.view.writes (Elt F) f
      [⟨rowR (pv c 2), red P (pv c 2)⟩, ⟨rowR (pv c 1), red P (pv c 1)⟩, ⟨rowR (pv c 0), red P (pv c 0)⟩, ⟨rowR c, red P c⟩]) = total P := by
    funext y
    refine View.read_writes_apply_of_pieces oM.view f (total P) _ ?_ y ?_
    · intro p hp
      simp only [List.mem_cons, List.not_mem_nil, or_false] at hp
      rcases hp with rfl | rfl | rfl | rfl <;> exact total_row P _
    · rcases back c (rowOf y) with h | h | h | h
      · exact ⟨⟨rowR c, red P c⟩, by simp, h ▸ row_mem y⟩
      · exact ⟨⟨rowR (pv c 0), red P (pv c 0)⟩, by simp, h ▸ row_mem y⟩
      · exact ⟨⟨rowR (pv c 1), red P (pv c 1)⟩, by simp, h ▸ row_mem y⟩
      · exact ⟨⟨rowR (pv c 2), red P (pv c 2)⟩, by simp, h ▸ row_mem y⟩
  unfold outAt
  rw [← hG, View.read_whole, owns_whole]

end Cert.KernelIdeal.Talk
-- ==== Proof.IdealBody.lean ====
/-
The call's body on one device, part by part: from what the launch deals it to the reduced blocks in the result's rows.
-/
module

public import proofs.«01_k».proof.Proof.IdealSteps
public import proofs.«01_k».proof.Proof.IdealPieces
public import Idealize.ShloMosaic.Lib.Pipeline.Value

@[expose] public section

set_option maxRecDepth 16384

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → Vec F S512x512 .f32) (K : GSem nD τ sig → ℕ)

/-! ## Names the body computes -/

theorem dev1 (c : Dev nD) : (⟨k0_dev1 c, k0_dev1_lt c⟩ : Dev nD) = nx c 0 := Fin.ext (k0_dev1_eq c)
theorem dev2 (c : Dev nD) : (⟨k0_dev2 c, k0_dev2_lt c⟩ : Dev nD) = nx c 1 := Fin.ext (k0_dev2_eq c)
theorem dev3 (c : Dev nD) : (⟨k0_dev3 c, k0_dev3_lt c⟩ : Dev nD) = nx c 2 := Fin.ext (k0_dev3_eq c)
theorem dev4 (c : Dev nD) : (⟨k0_dev4 c, k0_dev4_lt c⟩ : Dev nD) = nx c 0 := Fin.ext (k0_dev4_eq c)
theorem dev5 (c : Dev nD) : (⟨k0_dev5 c, k0_dev5_lt c⟩ : Dev nD) = nx c 1 := Fin.ext (k0_dev5_eq c)
theorem dev6 (c : Dev nD) : (⟨k0_dev6 c, k0_dev6_lt c⟩ : Dev nD) = nx c 2 := Fin.ext (k0_dev6_eq c)
theorem dev7 (c : Dev nD) : (⟨k0_dev7 c, k0_dev7_lt c⟩ : Dev nD) = nx c 0 := Fin.ext (k0_dev7_eq c)
theorem dev8 (c : Dev nD) : (⟨k0_dev8 c, k0_dev8_lt c⟩ : Dev nD) = nx c 1 := Fin.ext (k0_dev8_eq c)
theorem dev9 (c : Dev nD) : (⟨k0_dev9 c, k0_dev9_lt c⟩ : Dev nD) = nx c 2 := Fin.ext (k0_dev9_eq c)

theorem off1 (c : Dev nD) (k : Fin 3) : k0_off1 c (BitVec.ofNat 32 (1 + k.val)) = ![128 * (nx c k).val, 0] := k0_off1_eq c k
theorem off2 (c : Dev nD) : k0_off2 c = ![128 * c.val, 0] := k0_off2_eq c
theorem off3 (c : Dev nD) (k : Fin 3) : k0_off3 c (BitVec.ofNat 32 (1 + k.val)) = ![128 * (pv c k).val, 0] := k0_off3_eq c k

theorem row_slice {e : Dev nD} {off : Fin 2 → ℕ} (ho : off = ![128 * e.val, 0]) {inb : ∀ a, off a + S128x512.size a ≤ S512x512.size a} :
    xM.slice (Rect.unit (s := S512x512) off S128x512.size inb) (fun _ => rfl) = rowM e := by subst ho; rfl

/-! ## The copies, each with all it needs -/

/-- What a reduce-scatter copy needs: the rows it reads, the slot they land in, the two duties it pays. -/
def rsKit (c : Dev nD) (k : Fin 3) : sProp 𝕄 :=
  iprop(owns (c : Thread nD τ) (rowM (nx c k)) fullShare (rows (P c) (nx c k)) ∗ anyAt (nx c k) (rsM k)
    ∗ reached ER (dCell (nx c k) (jrr k)) 0 ∗ dutyTok ER (dCell c (jrs k)) 0 0 ∗ dutyTok ER (dCell (nx c k) (jrr k)) 0 0)
/-- What an all-gather copy needs but its source. -/
def agKit (c : Dev nD) (k : Fin 3) : sProp 𝕄 :=
  iprop(anyAt (nx c k) (agM k)
    ∗ reached ER (dCell (nx c k) (jar k)) 0 ∗ dutyTok ER (dCell c (jas k)) 0 0 ∗ dutyTok ER (dCell (nx c k) (jar k)) 0 0)

section Copies

variable {α : Type}

theorem step_rs (c n : Dev nD) (k : Fin 3) (hn : n = nx c k) (i : ℕ)
    (hi : itemCell c i = dCell (nx c k) (jrr k)) (ha : itemAmt i = N)
    {src dst : Memref sig .tc .vmem S128x512 .f32} (hsr : src = rowM (nx c k)) (hd : dst = rsM k)
    {sS sR : DmaSem sig} (hsS : sS = dS (jrs k)) (hsR : sR = dS (jrr k))
    {hsc : (dst : Memref sig (Dev.tc n : Thread nD τ).2.kind .vmem S128x512 .f32).view.ref.isScScratch = false}
    {hsrc : src.view.WordExact} {hdst : dst.view.WordExact}
    {hsem : DmaTarget.Typed .vmem (.dma sR) (.remote (Dev.tc n : Thread nD τ) dst (.dma sS) hsc)}
    {kk : PUnit → Prog (TpuEff nD τ sig (Elt F) Λ₀ .tc) α} {Q : α → sProp 𝕄} :
    iprop(env P K c ∗ rsKit P c k ∗ ow c (i + 1))
      ⊢ iprop(((ow c i ∗ cred (tallyAt (dCell c (jrs k)) () N))
          -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc n : Thread nD τ) dst (.dma sS) hsc) (.dma sR) hsrc hdst hsem) kk) Q) := by
  subst hd
  unfold rsKit
  iintro ⟨#He, ⟨Hs, Hd, #Hr, Ht₁, Ht₂⟩, HO⟩ Hk
  iapply (step_send P K c n (nx c k) hn (jrs k) (jrr k) i hi ha (V := rows (P c) (nx c k)) hsr hsS hsR (amt_rs k)
    (Entails.of_eq (payload_rs P c k 0).symm)
    ((Entails.of_eq (by unfold rsRecvPay; rw [pv_nx])).trans (Entails.of_eq (payload_rr P (nx c k) k 0).symm))) $$ [Hs Hd HO Ht₁ Ht₂]
  · isplitr; · iexact He
    isplitr; · iexact Hr
    isplitl [Hs]; · iexact Hs
    isplitl [Hd]; · iexact Hd
    isplitl [HO]; · iexact HO
    isplitl [Ht₁]; · iexact Ht₁
    iexact Ht₂
  iexact Hk

theorem step_ag (c n : Dev nD) (k : Fin 3) (hn : n = nx c k) (i : ℕ)
    (hi : itemCell c i = dCell (nx c k) (jar k)) (ha : itemAmt i = N)
    {dst : Memref sig .tc .vmem S128x512 .f32} (hd : dst = agM k)
    {sS sR : DmaSem sig} (hsS : sS = dS (jas k)) (hsR : sR = dS (jar k))
    {hsc : (dst : Memref sig (Dev.tc n : Thread nD τ).2.kind .vmem S128x512 .f32).view.ref.isScScratch = false}
    {hsrc : aM.view.WordExact} {hdst : dst.view.WordExact}
    {hsem : DmaTarget.Typed .vmem (.dma sR) (.remote (Dev.tc n : Thread nD τ) dst (.dma sS) hsc)}
    {kk : PUnit → Prog (TpuEff nD τ sig (Elt F) Λ₀ .tc) α} {Q : α → sProp 𝕄} :
    iprop(env P K c ∗ owns (c : Thread nD τ) aM (shr k) (red P c) ∗ agKit c k ∗ ow c (i + 1))
      ⊢ iprop(((ow c i ∗ cred (tallyAt (dCell c (jas k)) () N))
          -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma aM (.remote (Dev.tc n : Thread nD τ) dst (.dma sS) hsc) (.dma sR) hsrc hdst hsem) kk) Q) := by
  subst hd
  unfold agKit
  iintro ⟨#He, Hs, ⟨Hd, #Hr, Ht₁, Ht₂⟩, HO⟩ Hk
  iapply (step_send P K c n (nx c k) hn (jas k) (jar k) i hi ha (V := red P c) rfl hsS hsR (amt_ag k)
    (Entails.of_eq (payload_as P c k 0).symm)
    ((Entails.of_eq (by unfold agRecvPay; rw [pv_nx])).trans (Entails.of_eq (payload_ar P (nx c k) k 0).symm))) $$ [Hs Hd HO Ht₁ Ht₂]
  · isplitr; · iexact He
    isplitr; · iexact Hr
    isplitl [Hs]; · iexact Hs
    isplitl [Hd]; · iexact Hd
    isplitl [HO]; · iexact HO
    isplitl [Ht₁]; · iexact Ht₁
    iexact Ht₂
  iexact Hk

end Copies

/-! ## The parts -/

section Parts

variable (c : Dev nD) {h0 : xM.IsWhole} {h1 : oM.IsWhole} {h2 : rM.IsWhole} {h3 : aM.IsWhole} {h4 : gM.IsWhole}

/-- The signals and the barrier wait. -/
theorem part1 {Q : (Σ' (_ : Dev nD) (_ : BitVec 32), BitVec 32) → sProp 𝕄} :
    iprop(env P K c ∗ ow c 9
        ∗ (dutyTok ER (barCell (nx c 0)) 0 (rv 0) ∗ anyAt c (rsM (rv 0)) ∗ anyAt c (agM (rv 0)))
        ∗ (dutyTok ER (barCell (nx c 1)) 0 (rv 1) ∗ anyAt c (rsM (rv 1)) ∗ anyAt c (agM (rv 1)))
        ∗ (dutyTok ER (barCell (nx c 2)) 0 (rv 2) ∗ anyAt c (rsM (rv 2)) ∗ anyAt c (agM (rv 2)))
        ∗ cred (tallyAt (barCell c) () 3) ∗ atPos ER (barCell c) 0 ∅ 0)
      ⊢ iprop((∀ v v', (ow c 6 ∗ semVal (barCell c) 0 ∗ barPay c 0 ∗ barPay c 1 ∗ barPay c 2) -∗ Q ⟨c, v, v'⟩)
        -∗ wp frame (wpE (defs₀ (F := F)) 𝒱₀ (c : Thread nD τ) none) Set.univ
            (k0_part1 xM h0 oM h1 rM h2 aM h3 gM h4 cc0_scratch3 cc0_scratch4 cc0_scratch5 cc0_scratch6) Q) := by
  rw [k0_part1_eq_skeleton]; unfold k0_part1_skel
  simp only [semSignalWord, semWaitWord, Prog.lift, Prog.bind_op, Prog.bind_ret, Prog.pure_eq_ret, wp_deviceId]
  iintro ⟨#He, HO, H0, H1, H2, Hc, Hat⟩ Hk
  iapply (step_signal P K c _ 0 8 _ (by decide) (dev1 c) rfl rfl) $$ [HO H0]
  · isplitr; · iexact He
    isplitl [HO]; · iexact HO
    iexact H0
  iintro HO
  iapply (step_signal P K c _ 1 7 _ (by decide) (dev2 c) rfl rfl) $$ [HO H1]
  · isplitr; · iexact He
    isplitl [HO]; · iexact HO
    iexact H1
  iintro HO
  iapply (step_signal P K c _ 2 6 _ (by decide) (dev3 c) rfl rfl) $$ [HO H2]
  · isplitr; · iexact He
    isplitl [HO]; · iexact HO
    iexact H2
  iintro HO
  iapply (step_barrier P K c _ (by decide)) $$ [HO Hc Hat]
  · isplitr; · iexact He
    isplitl [HO]; · iexact HO
    isplitl [Hc]; · iexact Hc
    iexact Hat
  iintro H
  rw [wp_ret]; imodintro
  iapply Hk $$ %_ %_ H

/-- The reduce-scatter's copies. -/
theorem part2 {v v' : BitVec 32} {Q : (Σ' (_ : BitVec 32), BitVec 32) → sProp 𝕄} :
    iprop(env P K c ∗ rsKit P c 0 ∗ rsKit P c 1 ∗ rsKit P c 2 ∗ ow c 6)
      ⊢ iprop((∀ r, (ow c 3 ∗ cred (tallyAt (dCell c (jrs 0)) () N) ∗ cred (tallyAt (dCell c (jrs 1)) () N)
            ∗ cred (tallyAt (dCell c (jrs 2)) () N)) -∗ Q r)
        -∗ wp frame (wpE (defs₀ (F := F)) 𝒱₀ (c : Thread nD τ) none) Set.univ
            (k0_part2 xM h0 oM h1 rM h2 aM h3 gM h4 cc0_scratch3 cc0_scratch4 cc0_scratch5 cc0_scratch6 c v v') Q) := by
  rw [k0_part2_eq_skeleton]; unfold k0_part2_skel
  simp only [Prog.lift, Prog.bind_op, Prog.bind_ret, Prog.pure_eq_ret]
  iintro ⟨#He, H0, H1, H2, HO⟩ Hk
  iapply (step_rs P K c _ 0 (dev4 c) 5 rfl rfl (row_slice (off1 c 0)) rfl rfl rfl) $$ [HO H0]
  · isplitr; · iexact He
    isplitl [H0]; · iexact H0
    iexact HO
  iintro ⟨HO, HC0⟩
  iapply (step_rs P K c _ 1 (dev5 c) 4 rfl rfl (row_slice (off1 c 1)) rfl rfl rfl) $$ [HO H1]
  · isplitr; · iexact He
    isplitl [H1]; · iexact H1
    iexact HO
  iintro ⟨HO, HC1⟩
  iapply (step_rs P K c _ 2 (dev6 c) 3 rfl rfl (row_slice (off1 c 2)) rfl rfl rfl) $$ [HO H2]
  · isplitr; · iexact He
    isplitl [H2]; · iexact H2
    iexact HO
  iintro ⟨HO, HC2⟩
  rw [wp_ret]; imodintro
  iapply Hk
  isplitl [HO]; · iexact HO
  isplitl [HC0]; · iexact HC0
  isplitl [HC1]; · iexact HC1
  iexact HC2

theorem amt_any (M : Memref sig .tc .vmem S128x512 .f32) : M.view.dmaCredit = N := rfl

/-- A copy cell before its wait: its credit and its position. -/
def wkit (c : Dev nD) (j : Fin 12) : sProp 𝕄 := iprop(cred (tallyAt (dCell c j) () N) ∗ atPos ER (dCell c j) 0 ∅ 0)

theorem pay1_eq {a b d : Vec F S128x512 .f32} {w w' : Vec F S1x128x512 .f32} (h : shapeCast S128x512 w shapeCasts_S1x128x512_S128x512 = b)
    (h' : shapeCast S128x512 w' shapeCasts_S1x128x512_S128x512 = d) : k0_pay1 a w w' = addf (addf (a : FVec F S128x512 .f32) b) d := by
  unfold k0_pay1
  rw [h, h', shapeCast_self]
theorem pay2_eq {a : FVec F S128x512 .f32} {d : Vec F S128x512 .f32} {w : Vec F S1x128x512 .f32} (h : shapeCast S128x512 w shapeCasts_S1x128x512_S128x512 = d) :
    k0_pay2 a w = addf a (d : FVec F S128x512 .f32) := by
  unfold k0_pay2
  rw [h]
theorem pay3_eq {a : FVec F S128x512 .f32} {d : Vec F S128x512 .f32} {w : Vec F S1x128x512 .f32} (h : shapeCast S128x512 w shapeCasts_S1x128x512_S128x512 = d) :
    k0_pay3 a w = addf a (d : FVec F S128x512 .f32) := by
  unfold k0_pay3
  rw [pay2_eq h, shapeCast_self]

/-- The sum of a device's own rows and the first two landed. -/
def red2 (c : Dev nD) : FVec F S128x512 .f32 := addf (addf (rows (P c) c : FVec F S128x512 .f32) (rows (P (pv c 0)) c)) (rows (P (pv c 1)) c)

/-- The reduce-scatter's waits and the first three summands. -/
theorem part3 {v v' v'' : BitVec 32} {Q : FVec F S128x512 .f32 → sProp 𝕄} :
    iprop(env P K c ∗ ow c 3 ∗ wkit c (jrr 0) ∗ wkit c (jrr 1) ∗ wkit c (jrr 2) ∗ owns (c : Thread nD τ) (rowM c) fullShare (rows (P c) c))
      ⊢ iprop(((ow c 3 ∗ semVal (dCell c (jrr 0)) 0 ∗ semVal (dCell c (jrr 1)) 0 ∗ semVal (dCell c (jrr 2)) 0
            ∗ rsRecvPay P c 0 ∗ rsRecvPay P c 1 ∗ rsRecvPay P c 2
            ∗ owns (c : Thread nD τ) (rowM c) fullShare (rows (P c) c)) -∗ Q (red2 P c))
        -∗ wp frame (wpE (defs₀ (F := F)) 𝒱₀ (c : Thread nD τ) none) Set.univ
            (k0_part3 xM h0 oM h1 rM h2 aM h3 gM h4 cc0_scratch3 cc0_scratch4 cc0_scratch5 cc0_scratch6 c v v' v'') Q) := by
  rw [k0_part3_eq_skeleton]; unfold k0_part3_skel
  simp only [Prog.lift, Prog.bind_op, Prog.bind_ret, Prog.pure_eq_ret]
  iintro ⟨#He, HO, H0, H1, H2, Hx⟩ Hk
  iapply (step_wait P K c (jrr 0) 3 (fun i' h => item_lv_3 c i' h ()) (payload_rr P c 0 0) rfl (amt_rs 0)) $$ [HO H0]
  · unfold wkit
    icases H0 with ⟨Hc, Hat⟩
    isplitr; · iexact He
    isplitl [HO]; · iexact HO
    isplitl [Hc]; · iexact Hc
    iexact Hat
  iintro ⟨HO, HZ0, HP0⟩
  iapply (step_wait P K c (jrr 1) 3 (fun i' h => item_lv_3 c i' h ()) (payload_rr P c 1 0) rfl (amt_rs 1)) $$ [HO H1]
  · unfold wkit
    icases H1 with ⟨Hc, Hat⟩
    isplitr; · iexact He
    isplitl [HO]; · iexact HO
    isplitl [Hc]; · iexact Hc
    iexact Hat
  iintro ⟨HO, HZ1, HP1⟩
  iapply (step_wait P K c (jrr 2) 3 (fun i' h => item_lv_3 c i' h ()) (payload_rr P c 2 0) rfl (amt_rs 2)) $$ [HO H2]
  · unfold wkit
    icases H2 with ⟨Hc, Hat⟩
    isplitr; · iexact He
    isplitl [HO]; · iexact HO
    isplitl [Hc]; · iexact Hc
    iexact Hat
  iintro ⟨HO, HZ2, HP2⟩
  iapply (step_load_row c c (off2 c)) $$ Hx
  iintro Hx
  unfold rsRecvPay
  iapply (step_load_slot c rM 0) $$ HP0
  iintro %w0 %hw0 HP0
  iapply (step_load_slot c rM 1) $$ HP1
  iintro %w1 %hw1 HP1
  rw [wp_ret]; imodintro
  rw [show k0_pay1 (rows (P c) c) w0 w1 = red2 P c from pay1_eq hw0 hw1]
  iapply Hk
  isplitl [HO]; · iexact HO
  isplitl [HZ0]; · iexact HZ0
  isplitl [HZ1]; · iexact HZ1
  isplitl [HZ2]; · iexact HZ2
  isplitl [HP0]; · iexact HP0
  isplitl [HP1]; · iexact HP1
  isplitl [HP2]; · iexact HP2
  iexact Hx

/-- The last summand, the two stores of the reduced block, and the first two copies of it. -/
theorem part4 {v : BitVec 32} {f : Buf (Elt F) ((c : Thread nD τ).loc cc0_stg1_0)}
    {Q : (Σ' (_ : BitVec 32) (_ : BitVec 32), BitVec 32) → sProp 𝕄} :
    iprop(env P K c ∗ ow c 3 ∗ rsRecvPay P c 2 ∗ anyAt c aM ∗ outAt c f [] ∗ agKit c 0 ∗ agKit c 1)
      ⊢ iprop((∀ r, (ow c 1 ∗ rsRecvPay P c 2 ∗ outAt c f [⟨rowR c, red P c⟩] ∗ owns (c : Thread nD τ) aM (shr 2) (red P c)
            ∗ cred (tallyAt (dCell c (jas 0)) () N) ∗ cred (tallyAt (dCell c (jas 1)) () N)) -∗ Q r)
        -∗ wp frame (wpE (defs₀ (F := F)) 𝒱₀ (c : Thread nD τ) none) Set.univ
            (k0_part4 xM h0 oM h1 rM h2 aM h3 gM h4 cc0_scratch3 cc0_scratch4 cc0_scratch5 cc0_scratch6 c v (red2 P c)) Q) := by
  rw [k0_part4_eq_skeleton]; unfold k0_part4_skel
  simp only [Prog.lift, Prog.bind_op, Prog.bind_ret, Prog.pure_eq_ret]
  iintro ⟨#He, HO, Hr, Ha, Hout, H0, H1⟩ Hk
  unfold rsRecvPay
  iapply (step_load_slot c rM 2) $$ Hr
  iintro %w %hw Hr
  iapply (step_store_block c (V := red P c) (pay3_eq hw)) $$ Ha
  iintro Ha
  iapply (step_store_row c c (off2 c) (V := red P c) (pay2_eq hw)) $$ Hout
  iintro Hout
  ihave Ha' := (shares_split c (red P c)) $$ Ha
  icases Ha' with ⟨Ha0, Ha1, Ha2⟩
  iapply (step_ag P K c _ 0 (dev7 c) 2 rfl rfl rfl rfl rfl) $$ [HO H0 Ha0]
  · isplitr; · iexact He
    isplitl [Ha0]; · iexact Ha0
    isplitl [H0]; · iexact H0
    iexact HO
  iintro ⟨HO, HC0⟩
  iapply (step_ag P K c _ 1 (dev8 c) 1 rfl rfl rfl rfl rfl) $$ [HO H1 Ha1]
  · isplitr; · iexact He
    isplitl [Ha1]; · iexact Ha1
    isplitl [H1]; · iexact H1
    iexact HO
  iintro ⟨HO, HC1⟩
  rw [wp_ret]; imodintro
  iapply Hk
  isplitl [HO]; · iexact HO
  isplitl [Hr]; · iexact Hr
  isplitl [Hout]; · iexact Hout
  isplitl [Ha2]; · iexact Ha2
  isplitl [HC0]; · iexact HC0
  iexact HC1

/-- The last copy of the reduced block, and the first block landed stored. -/
theorem part5 {v v1 v2 v3 : BitVec 32} {f : Buf (Elt F) ((c : Thread nD τ).loc cc0_stg1_0)} {Lw : List (View.Piece (Elt F) S512x512 .f32)}
    {Q : PUnit → sProp 𝕄} :
    iprop(env P K c ∗ ow c 1 ∗ owns (c : Thread nD τ) aM (shr 2) (red P c) ∗ agKit c 2 ∗ wkit c (jar 0) ∗ outAt c f Lw)
      ⊢ iprop(((ow c 0 ∗ cred (tallyAt (dCell c (jas 2)) () N) ∗ semVal (dCell c (jar 0)) 0 ∗ agRecvPay P c 0
            ∗ outAt c f (⟨rowR (pv c 0), red P (pv c 0)⟩ :: Lw)) -∗ Q ⟨⟩)
        -∗ wp frame (wpE (defs₀ (F := F)) 𝒱₀ (c : Thread nD τ) none) Set.univ
            (k0_part5 xM h0 oM h1 rM h2 aM h3 gM h4 cc0_scratch3 cc0_scratch4 cc0_scratch5 cc0_scratch6 c v v1 v2 v3) Q) := by
  rw [k0_part5_eq_skeleton]; unfold k0_part5_skel
  simp only [Prog.lift, Prog.bind_op, Prog.bind_ret, Prog.pure_eq_ret]
  iintro ⟨#He, HO, Ha, H2, H0, Hout⟩ Hk
  iapply (step_ag P K c _ 2 (dev9 c) 0 rfl rfl rfl rfl rfl) $$ [HO H2 Ha]
  · isplitr; · iexact He
    isplitl [Ha]; · iexact Ha
    isplitl [H2]; · iexact H2
    iexact HO
  iintro ⟨HO, HC⟩
  iapply (step_wait P K c (jar 0) 0 (fun i' h => absurd h (Nat.not_lt_zero _)) (payload_ar P c 0 0) rfl (amt_ag 0)) $$ [HO H0]
  · unfold wkit
    icases H0 with ⟨Hc, Hat⟩
    isplitr; · iexact He
    isplitl [HO]; · iexact HO
    isplitl [Hc]; · iexact Hc
    iexact Hat
  iintro ⟨HO, HZ0, HP0⟩
  unfold agRecvPay
  iapply (step_load_slot c gM 0) $$ HP0
  iintro %w %hw HP0
  iapply (step_store_row c (pv c 0) (off3 c 0) (V := red P (pv c 0)) hw) $$ Hout
  iintro Hout
  rw [wp_ret]; imodintro
  iapply Hk
  isplitl [HO]; · iexact HO
  isplitl [HC]; · iexact HC
  isplitl [HZ0]; · iexact HZ0
  isplitl [HP0]; · iexact HP0
  iexact Hout

/-- The other two blocks landed, stored. -/
theorem part6 {v v1 : BitVec 32} {f : Buf (Elt F) ((c : Thread nD τ).loc cc0_stg1_0)} {Lw : List (View.Piece (Elt F) S512x512 .f32)}
    {Q : PUnit → sProp 𝕄} :
    iprop(env P K c ∗ ow c 0 ∗ wkit c (jar 1) ∗ wkit c (jar 2) ∗ outAt c f Lw)
      ⊢ iprop(((ow c 0 ∗ semVal (dCell c (jar 1)) 0 ∗ semVal (dCell c (jar 2)) 0 ∗ agRecvPay P c 1 ∗ agRecvPay P c 2
            ∗ outAt c f (⟨rowR (pv c 2), red P (pv c 2)⟩ :: ⟨rowR (pv c 1), red P (pv c 1)⟩ :: Lw)) -∗ Q ⟨⟩)
        -∗ wp frame (wpE (defs₀ (F := F)) 𝒱₀ (c : Thread nD τ) none) Set.univ
            (k0_part6 xM h0 oM h1 rM h2 aM h3 gM h4 cc0_scratch3 cc0_scratch4 cc0_scratch5 cc0_scratch6 c v v1) Q) := by
  rw [k0_part6_eq_skeleton]; unfold k0_part6_skel
  simp only [Prog.lift, Prog.bind_op, Prog.bind_ret, Prog.pure_eq_ret]
  iintro ⟨#He, HO, H1, H2, Hout⟩ Hk
  iapply (step_wait P K c (jar 1) 0 (fun i' h => absurd h (Nat.not_lt_zero _)) (payload_ar P c 1 0) rfl (amt_ag 1)) $$ [HO H1]
  · unfold wkit
    icases H1 with ⟨Hc, Hat⟩
    isplitr; · iexact He
    isplitl [HO]; · iexact HO
    isplitl [Hc]; · iexact Hc
    iexact Hat
  iintro ⟨HO, HZ1, HP1⟩
  unfold agRecvPay
  iapply (step_load_slot c gM 1) $$ HP1
  iintro %w1 %hw1 HP1
  iapply (step_store_row c (pv c 1) (off3 c 1) (V := red P (pv c 1)) hw1) $$ Hout
  iintro Hout
  iapply (step_wait P K c (jar 2) 0 (fun i' h => absurd h (Nat.not_lt_zero _)) (payload_ar P c 2 0) rfl (amt_ag 2)) $$ [HO H2]
  · unfold wkit
    icases H2 with ⟨Hc, Hat⟩
    isplitr; · iexact He
    isplitl [HO]; · iexact HO
    isplitl [Hc]; · iexact Hc
    iexact Hat
  iintro ⟨HO, HZ2, HP2⟩
  unfold agRecvPay
  iapply (step_load_slot c gM 2) $$ HP2
  iintro %w2 %hw2 HP2
  iapply (step_store_row c (pv c 2) (off3 c 2) (V := red P (pv c 2)) hw2) $$ Hout
  iintro Hout
  rw [wp_ret]; imodintro
  iapply Hk
  isplitl [HO]; · iexact HO
  isplitl [HZ1]; · iexact HZ1
  isplitl [HZ2]; · iexact HZ2
  isplitl [HP1]; · iexact HP1
  isplitl [HP2]; · iexact HP2
  iexact Hout

/-- The waits for the device's own copies to have left, but the last. -/
theorem part7 {Q : PUnit → sProp 𝕄} :
    iprop(env P K c ∗ ow c 0 ∗ wkit c (jrs 0) ∗ wkit c (jrs 1) ∗ wkit c (jrs 2) ∗ wkit c (jas 0) ∗ wkit c (jas 1))
      ⊢ iprop(((ow c 0 ∗ semVal (dCell c (jrs 0)) 0 ∗ semVal (dCell c (jrs 1)) 0 ∗ semVal (dCell c (jrs 2)) 0
            ∗ semVal (dCell c (jas 0)) 0 ∗ semVal (dCell c (jas 1)) 0
            ∗ rsSendPay P c 0 ∗ rsSendPay P c 1 ∗ rsSendPay P c 2 ∗ agSendPay P c 0 ∗ agSendPay P c 1) -∗ Q ⟨⟩)
        -∗ wp frame (wpE (defs₀ (F := F)) 𝒱₀ (c : Thread nD τ) none) Set.univ
            (k0_part7 xM h0 oM h1 rM h2 aM h3 gM h4 cc0_scratch3 cc0_scratch4 cc0_scratch5 cc0_scratch6 c) Q) := by
  rw [k0_part7_eq_skeleton]; unfold k0_part7_skel
  simp only [Prog.lift, Prog.bind_op, Prog.bind_ret, Prog.pure_eq_ret]
  iintro ⟨#He, HO, H0, H1, H2, H3, H4⟩ Hk
  iapply (step_wait P K c (jrs 0) 0 (fun i' h => absurd h (Nat.not_lt_zero _)) (payload_rs P c 0 0) rfl (amt_any _)) $$ [HO H0]
  · unfold wkit
    icases H0 with ⟨Hc, Hat⟩
    isplitr; · iexact He
    isplitl [HO]; · iexact HO
    isplitl [Hc]; · iexact Hc
    iexact Hat
  iintro ⟨HO, HZ0, HP0⟩
  iapply (step_wait P K c (jrs 1) 0 (fun i' h => absurd h (Nat.not_lt_zero _)) (payload_rs P c 1 0) rfl (amt_any _)) $$ [HO H1]
  · unfold wkit
    icases H1 with ⟨Hc, Hat⟩
    isplitr; · iexact He
    isplitl [HO]; · iexact HO
    isplitl [Hc]; · iexact Hc
    iexact Hat
  iintro ⟨HO, HZ1, HP1⟩
  iapply (step_wait P K c (jrs 2) 0 (fun i' h => absurd h (Nat.not_lt_zero _)) (payload_rs P c 2 0) rfl (amt_any _)) $$ [HO H2]
  · unfold wkit
    icases H2 with ⟨Hc, Hat⟩
    isplitr; · iexact He
    isplitl [HO]; · iexact HO
    isplitl [Hc]; · iexact Hc
    iexact Hat
  iintro ⟨HO, HZ2, HP2⟩
  iapply (step_wait P K c (jas 0) 0 (fun i' h => absurd h (Nat.not_lt_zero _)) (payload_as P c 0 0) rfl amt_a) $$ [HO H3]
  · unfold wkit
    icases H3 with ⟨Hc, Hat⟩
    isplitr; · iexact He
    isplitl [HO]; · iexact HO
    isplitl [Hc]; · iexact Hc
    iexact Hat
  iintro ⟨HO, HZ3, HP3⟩
  iapply (step_wait P K c (jas 1) 0 (fun i' h => absurd h (Nat.not_lt_zero _)) (payload_as P c 1 0) rfl amt_a) $$ [HO H4]
  · unfold wkit
    icases H4 with ⟨Hc, Hat⟩
    isplitr; · iexact He
    isplitl [HO]; · iexact HO
    isplitl [Hc]; · iexact Hc
    iexact Hat
  iintro ⟨HO, HZ4, HP4⟩
  rw [wp_ret]; imodintro
  iapply Hk
  isplitl [HO]; · iexact HO
  isplitl [HZ0]; · iexact HZ0
  isplitl [HZ1]; · iexact HZ1
  isplitl [HZ2]; · iexact HZ2
  isplitl [HZ3]; · iexact HZ3
  isplitl [HZ4]; · iexact HZ4
  isplitl [HP0]; · iexact HP0
  isplitl [HP1]; · iexact HP1
  isplitl [HP2]; · iexact HP2
  isplitl [HP3]; · iexact HP3
  iexact HP4

end Parts

end Cert.KernelIdeal.Talk
-- ==== Proof.IdealRun.lean ====
/-
The call's body on one device, whole: its parts in order, between the buffers whole and the buffers whole.
-/
module

public import proofs.«01_k».proof.Proof.IdealBody

@[expose] public section

set_option maxRecDepth 16384

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → Vec F S512x512 .f32) (K : GSem nD τ sig → ℕ)

theorem sep12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- The duties device `c` pays at distance `k + 1`. -/
def toks (c : Dev nD) (k : Fin 3) : sProp 𝕄 :=
  iprop(dutyTok ER (barCell (nx c k)) 0 (rv k)
    ∗ (dutyTok ER (dCell c (jrs k)) 0 0 ∗ dutyTok ER (dCell (nx c k) (jrr k)) 0 0)
    ∗ (dutyTok ER (dCell c (jas k)) 0 0 ∗ dutyTok ER (dCell (nx c k) (jar k)) 0 0))
/-- The credits device `c`'s waits spend that another device's payment backs. -/
def creds (c : Dev nD) : sProp 𝕄 :=
  iprop(cred (tallyAt (barCell c) () 3) ∗ (bigSep Finset.univ fun k : Fin 3 => cred (tallyAt (dCell c (jrr k)) () N))
    ∗ (bigSep Finset.univ fun k : Fin 3 => cred (tallyAt (dCell c (jar k)) () N)))
/-- Everything the body starts from on device `c`. -/
def start (c : Dev nD) : sProp 𝕄 :=
  iprop(atPos ER (barCell c) 0 ∅ 0 ∗ (bigSep Finset.univ fun j : Fin 12 => atPos ER (dCell c j) 0 ∅ 0)
    ∗ (bigSep Finset.univ fun k : Fin 3 => toks c k) ∗ creds c)

theorem any_of_owns (c : Dev nD) {s : Shape} {M : Memref sig .tc .vmem s .f32} {V : Vec F s .f32} :
    (owns (c : Thread nD τ) M fullShare V : sProp 𝕄) ⊢ anyAt c M := by
  unfold anyAt
  iintro H
  iexists V
  iexact H

theorem out_start (c : Dev nD) : (anyAt c oM : sProp 𝕄) ⊢ iprop(∃ f, outAt c f []) := by
  unfold anyAt outAt
  iintro ⟨%X, H⟩
  ihave H' := (Entails.of_eq (owns_whole (c : Thread nD τ) cc0_stg1_0 fullShare X)) $$ H
  iexists X
  iexact H'

theorem body_run (c : Dev nD) {h0 : xM.IsWhole} {h1 : oM.IsWhole} {h2 : rM.IsWhole} {h3 : aM.IsWhole} {h4 : gM.IsWhole} {Q : PUnit → sProp 𝕄} :
    iprop(env P K c ∗ start c ∗ ow c 9 ∗ (anyAt c rM ∗ anyAt c aM ∗ anyAt c gM) ∗ owns (c : Thread nD τ) xM fullShare (P c) ∗ anyAt c oM)
      ⊢ iprop(((ow c 0 ∗ semVal (barCell c) 0 ∗ (bigSep Finset.univ fun j : Fin 12 => semVal (dCell c j) 0)
            ∗ (anyAt c rM ∗ anyAt c aM ∗ anyAt c gM) ∗ owns (c : Thread nD τ) xM fullShare (P c)
            ∗ owns (c : Thread nD τ) oM fullShare (total P)) -∗ Q ⟨⟩)
        -∗ wp frame (wpE (defs₀ (F := F)) 𝒱₀ (c : Thread nD τ) none) Set.univ
            (cc0_body xM h0 oM h1 rM h2 aM h3 gM h4 cc0_scratch3 cc0_scratch4 cc0_scratch5 cc0_scratch6) Q) := by
  rw [cc0_body_eq_skeleton]; unfold cc0_body_skel start creds
  rw [sep3, sep3, sep3, sep12, sep12]
  unfold toks
  iintro ⟨#He, ⟨HatB, ⟨At0, At1, At2, At3, At4, At5, At6, At7, At8, At9, At10, At11⟩, ⟨⟨TB0, TR0, TA0⟩, ⟨TB1, TR1, TA1⟩, TB2, TR2, TA2⟩,
    CB, ⟨CR0, CR1, CR2⟩, CA0, CA1, CA2⟩, HO, ⟨Hr, Ha, Hg⟩, Hx, Ho⟩ Hk
  ihave Hr' := (slots_split c rM) $$ Hr
  icases Hr' with ⟨Hr0, Hr1, Hr2⟩
  ihave Hg' := (slots_split c gM) $$ Hg
  icases Hg' with ⟨Hg0, Hg1, Hg2⟩
  ihave Hx' := (rows_split c (P c)) $$ Hx
  icases Hx' with ⟨Hx, Hx0, Hx1, Hx2⟩
  ihave Ho' := (out_start c) $$ Ho
  icases Ho' with ⟨%f, Hout⟩
  rw [wp_bind]
  iapply (part1 P K c) $$ [HO TB0 TB1 TB2 Hr0 Hr1 Hr2 Hg0 Hg1 Hg2 CB HatB]
  · isplitr; · iexact He
    isplitl [HO]; · iexact HO
    isplitl [TB0 Hr2 Hg2]
    · isplitl [TB0]; · iexact TB0
      isplitl [Hr2]; · iexact Hr2
      iexact Hg2
    isplitl [TB1 Hr1 Hg1]
    · isplitl [TB1]; · iexact TB1
      isplitl [Hr1]; · iexact Hr1
      iexact Hg1
    isplitl [TB2 Hr0 Hg0]
    · isplitl [TB2]; · iexact TB2
      isplitl [Hr0]; · iexact Hr0
      iexact Hg0
    isplitl [CB]; · iexact CB
    iexact HatB
  iintro %v %v' ⟨HO, HZB, HB0, HB1, HB2⟩
  unfold barPay
  icases HB0 with ⟨Hr0, Hg0, #Rr0, #Rg0⟩
  icases HB1 with ⟨Hr1, Hg1, #Rr1, #Rg1⟩
  icases HB2 with ⟨Hr2, Hg2, #Rr2, #Rg2⟩
  dsimp only
  rw [wp_bind]
  iapply (part2 P K c) $$ [HO TR0 TR1 TR2 Hr0 Hr1 Hr2 Hx0 Hx1 Hx2]
  · isplitr; · iexact He
    isplitl [TR0 Hr0 Hx0]
    · unfold rsKit
      isplitl [Hx0]; · iexact Hx0
      isplitl [Hr0]; · iexact Hr0
      isplitr; · iexact Rr0
      iexact TR0
    isplitl [TR1 Hr1 Hx1]
    · unfold rsKit
      isplitl [Hx1]; · iexact Hx1
      isplitl [Hr1]; · iexact Hr1
      isplitr; · iexact Rr1
      iexact TR1
    isplitl [TR2 Hr2 Hx2]
    · unfold rsKit
      isplitl [Hx2]; · iexact Hx2
      isplitl [Hr2]; · iexact Hr2
      isplitr; · iexact Rr2
      iexact TR2
    iexact HO
  iintro %r2 ⟨HO, CS0, CS1, CS2⟩
  obtain ⟨v29, v41⟩ := r2
  dsimp only
  rw [wp_bind]
  iapply (part3 P K c) $$ [HO CR0 CR1 CR2 At3 At4 At5 Hx]
  · isplitr; · iexact He
    isplitl [HO]; · iexact HO
    isplitl [CR0 At3]
    · unfold wkit
      isplitl [CR0]; · iexact CR0
      iexact At3
    isplitl [CR1 At4]
    · unfold wkit
      isplitl [CR1]; · iexact CR1
      iexact At4
    isplitl [CR2 At5]
    · unfold wkit
      isplitl [CR2]; · iexact CR2
      iexact At5
    iexact Hx
  iintro ⟨HO, HZ3, HZ4, HZ5, Hr0, Hr1, Hr2, Hx⟩
  rw [wp_bind]
  iapply (part4 P K c) $$ [HO Hr2 Ha Hout TA0 TA1 Hg0 Hg1]
  · isplitr; · iexact He
    isplitl [HO]; · iexact HO
    isplitl [Hr2]; · iexact Hr2
    isplitl [Ha]; · iexact Ha
    isplitl [Hout]; · iexact Hout
    isplitl [TA0 Hg0]
    · unfold agKit
      isplitl [Hg0]; · iexact Hg0
      isplitr; · iexact Rg0
      iexact TA0
    unfold agKit
    isplitl [Hg1]; · iexact Hg1
    isplitr; · iexact Rg1
    iexact TA1
  iintro %r4 ⟨HO, Hr2, Hout, Ha2, CS6, CS7⟩
  obtain ⟨v93, v103, v113⟩ := r4
  dsimp only
  rw [wp_bind]
  iapply (part5 P K c) $$ [HO Ha2 TA2 Hg2 CA0 At9 Hout]
  · isplitr; · iexact He
    isplitl [HO]; · iexact HO
    isplitl [Ha2]; · iexact Ha2
    isplitl [TA2 Hg2]
    · unfold agKit
      isplitl [Hg2]; · iexact Hg2
      isplitr; · iexact Rg2
      iexact TA2
    isplitl [CA0 At9]
    · unfold wkit
      isplitl [CA0]; · iexact CA0
      iexact At9
    iexact Hout
  iintro ⟨HO, CS8, HZ9, Hg0, Hout⟩
  rw [wp_bind]
  iapply (part6 P K c) $$ [HO CA1 CA2 At10 At11 Hout]
  · isplitr; · iexact He
    isplitl [HO]; · iexact HO
    isplitl [CA1 At10]
    · unfold wkit
      isplitl [CA1]; · iexact CA1
      iexact At10
    isplitl [CA2 At11]
    · unfold wkit
      isplitl [CA2]; · iexact CA2
      iexact At11
    iexact Hout
  iintro ⟨HO, HZ10, HZ11, Hg1, Hg2, Hout⟩
  rw [wp_bind]
  iapply (part7 P K c) $$ [HO CS0 CS1 CS2 CS6 CS7 At0 At1 At2 At6 At7]
  · isplitr; · iexact He
    isplitl [HO]; · iexact HO
    isplitl [CS0 At0]
    · unfold wkit
      isplitl [CS0]; · iexact CS0
      iexact At0
    isplitl [CS1 At1]
    · unfold wkit
      isplitl [CS1]; · iexact CS1
      iexact At1
    isplitl [CS2 At2]
    · unfold wkit
      isplitl [CS2]; · iexact CS2
      iexact At2
    isplitl [CS6 At6]
    · unfold wkit
      isplitl [CS6]; · iexact CS6
      iexact At6
    unfold wkit
    isplitl [CS7]; · iexact CS7
    iexact At7
  iintro ⟨HO, HZ0, HZ1, HZ2, HZ6, HZ7, Hx0, Hx1, Hx2, Ha0, Ha1⟩
  simp only [Prog.lift, Prog.bind_op, Prog.bind_ret, Prog.pure_eq_ret]
  iapply (step_wait P K c (jas 2) 0 (fun i' h => absurd h (Nat.not_lt_zero _)) (payload_as P c 2 0) rfl (amt_any _)) $$ [HO CS8 At8]
  · isplitr; · iexact He
    isplitl [HO]; · iexact HO
    isplitl [CS8]; · iexact CS8
    iexact At8
  iintro ⟨HO, HZ8, Ha2⟩
  rw [wp_ret]; imodintro
  unfold rsRecvPay agRecvPay rsSendPay agSendPay
  iapply Hk
  isplitl [HO]; · iexact HO
  isplitl [HZB]; · iexact HZB
  isplitl [HZ0 HZ1 HZ2 HZ3 HZ4 HZ5 HZ6 HZ7 HZ8 HZ9 HZ10 HZ11]
  · isplitl [HZ0]; · iexact HZ0
    isplitl [HZ1]; · iexact HZ1
    isplitl [HZ2]; · iexact HZ2
    isplitl [HZ3]; · iexact HZ3
    isplitl [HZ4]; · iexact HZ4
    isplitl [HZ5]; · iexact HZ5
    isplitl [HZ6]; · iexact HZ6
    isplitl [HZ7]; · iexact HZ7
    isplitl [HZ8]; · iexact HZ8
    isplitl [HZ9]; · iexact HZ9
    isplitl [HZ10]; · iexact HZ10
    iexact HZ11
  isplitl [Hr0 Hr1 Hr2 Hg0 Hg1 Hg2 Ha0 Ha1 Ha2]
  · isplitl [Hr0 Hr1 Hr2]
    · iapply (slots_join c rM)
      isplitl [Hr0]; · iapply (any_of_owns c); iexact Hr0
      isplitl [Hr1]; · iapply (any_of_owns c); iexact Hr1
      iapply (any_of_owns c); iexact Hr2
    isplitl [Ha0 Ha1 Ha2]
    · iapply (any_of_owns c)
      iapply (shares_join c (red P c))
      isplitl [Ha0]; · iexact Ha0
      isplitl [Ha1]; · iexact Ha1
      iexact Ha2
    iapply (slots_join c gM)
    isplitl [Hg0]; · iapply (any_of_owns c); iexact Hg0
    isplitl [Hg1]; · iapply (any_of_owns c); iexact Hg1
    iapply (any_of_owns c); iexact Hg2
  isplitl [Hx Hx0 Hx1 Hx2]
  · iapply (rows_join c (P c))
    isplitl [Hx]; · iexact Hx
    isplitl [Hx0]; · iexact Hx0
    isplitl [Hx1]; · iexact Hx1
    iexact Hx2
  iapply (out_total P c f)
  iexact Hout

end Cert.KernelIdeal.Talk
-- ==== Proof.IdealLaunch.lean ====
/-
The call as one region of the program: what it stages, its body, and its record between the host stretches.
-/
module

public import proofs.«01_k».proof.Proof.IdealRun
public import proofs.«01_k».proof.Proof.Gen.KernelIdeal.Points

@[expose] public section

set_option maxRecDepth 16384

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The staged contents -/

/-- Device `c`'s partial: what the host stretches before the call leave in its operand. -/
def part (c : Dev nD) : Vec F S512x512 .f32 := V7 m c (Proc.devRef .tc main_v46)

/-- The call leaves every device's result at the four row blocks' sums. -/
def outs : Outs (F := F) := fun _ r c =>
  Function.update (V7 m c) (Proc.devRef .tc main_v47) (total (part m)) (Proc.devRef .tc r)

theorem V8_out (c : Dev nD) : V8 m (outs m) c (Proc.devRef .tc main_v47) = (total (part m) : Vec F S512x512 .f32) := by
  unfold V8 outs
  rw [Function.update_self, Function.update_self]

theorem emb_in (i : S512x512.Idx) : (win0_0.blk t0_0).view.emb i = i := by
  funext a; apply Fin.ext; fin_cases a
  · show 0 * 512 + 1 * (i 0).val = (i 0).val; omega
  · show 0 * 512 + 1 * (i 1).val = (i 1).val; omega
theorem emb_out (i : S512x512.Idx) : (win0_1.blk t0_0).view.emb i = i := by
  funext a; apply Fin.ext; fin_cases a
  · show 0 * 512 + 1 * (i 0).val = (i 0).val; omega
  · show 0 * 512 + 1 * (i 1).val = (i 1).val; omega

theorem read_in (f : Vec F S512x512 .f32) : (win0_0.blk t0_0).view.read (Elt F) f = f := by
  funext i
  rw [View.read_apply, emb_in]; rfl
theorem read_out (f : Vec F S512x512 .f32) : (win0_1.blk t0_0).view.read (Elt F) f = f := by
  funext i
  rw [View.read_apply, emb_out]; rfl

/-! ## The region's record of contents -/

/-- The call's three buffers of its own, at contents not named. -/
def bufs (c : Dev nD) : sProp 𝕄 := iprop(anyAt c rM ∗ anyAt c aM ∗ anyAt c gM)

/-- Before the body: the protocol's share and the buffers. -/
def pre0 (c : Dev nD) : sProp 𝕄 := iprop((∃ K, env (part m) K c ∗ start c) ∗ bufs c ∗ ∃ r, prngReg c r)
/-- After it: every counter at zero, and the buffers. -/
def post0 (c : Dev nD) : sProp 𝕄 :=
  iprop((semVal (barCell c) 0 ∗ bigSep Finset.univ fun j : Fin 12 => semVal (dCell c j) 0) ∗ bufs c ∗ ∃ r, prngReg c r)

/-- The call's windows: the partial in, the total out; nine payments owed before its one point, none after. -/
def dat0 (c : Dev nD) : Dat τ (Elt F) Unit ℕ UU ℕ cfg0 c where
  A w := V7 m c (Proc.devRef .tc (Pipeline.arrRef spec0 w))
  after w _ := match w with
    | ⟨0, _⟩ => part m c
    | ⟨1, _⟩ => total (part m)
  Φ t := if t.val = 0 then pre0 m c else post0 c
  q _ := fullShare
  owed t := if t.val = 0 then O₀ c else 0

def pdats : (p : Fin 1) → (c : Dev nD) → Dat τ (Elt F) Unit ℕ UU ℕ (cfgs p) c := fun | 0 => dat0 m

theorem dat0_share (c : Dev nD) (w : Fin cfg0.W) : (dat0 m c).share w = fullShare := by unfold Dat.share; split <;> rfl

theorem before_in (c : Dev nD) (d) : (dat0 m c).before (0 : Fin 2) t0_0 d = part m c := by
  unfold Dat.before
  rw [if_pos (fetch0_0 t0_0)]
  exact read_in (part m c)

theorem last_val : (Fin.last cfg0.N).val ≠ 0 := by rw [Fin.val_last]; exact fun h => by rw [show cfg0.N = 1 from N_0] at h; exact absurd h (by decide)

theorem owes_out (c : Dev nD) : (ow c 0 : sProp 𝕄) ⊢ (dat0 m c).owesAt () t0_0.succ := by
  unfold Dat.owesAt Pipeline.owesWithin ow
  iintro ⟨%W, HO⟩
  iexists W
  isplitr; · ipureintro; exact fun _ _ => Or.inl trivial
  iexact HO
theorem owes_in (c : Dev nD) : ((dat0 m c).owesAt () t0_0.castSucc : sProp 𝕄) ⊢ ow c 9 := by
  unfold Dat.owesAt Pipeline.owesWithin ow
  iintro ⟨%W, -, HO⟩
  iexists W
  iexact HO

/-- The body's obligation on device `c`. -/
theorem body_obligation (c : Dev nD) : BodyObligation (dat0 (F := F) m c) (defs₀ (F := F)) 𝒱₀ () Set.univ := fun t => by
  rw [fin_N0 t]
  rw [bigSep_W0, bigSep_W0]
  show iprop(pre0 m c ∗ (dat0 m c).owesAt () t0_0.castSucc
      ∗ (∃ d, owns (c : Thread nD τ) xM fullShare ((dat0 m c).before (0 : Fin 2) t0_0 d))
      ∗ (∃ d, owns (c : Thread nD τ) oM fullShare ((dat0 m c).before (1 : Fin 2) t0_0 d)))
    ⊢ wp frame (wpE (defs₀ (F := F)) 𝒱₀ (c : Thread nD τ) none) Set.univ
        (cc0_body xM (Memref.isWhole_whole _) oM (Memref.isWhole_whole _) rM (Memref.isWhole_whole _) aM (Memref.isWhole_whole _)
          gM (Memref.isWhole_whole _) cc0_scratch3 cc0_scratch4 cc0_scratch5 cc0_scratch6)
        (fun _ => iprop(post0 c ∗ (dat0 m c).owesAt () t0_0.succ
          ∗ owns (c : Thread nD τ) xM fullShare (part m c) ∗ owns (c : Thread nD τ) oM fullShare (total (part m))))
  unfold pre0 bufs
  iintro ⟨⟨⟨%K, He, Hs⟩, Hb, Hr⟩, HO, ⟨%d, Hx⟩, ⟨%d', Ho⟩⟩
  ihave HO' := (owes_in m c) $$ HO
  ihave Hx' := (Entails.of_eq (congrArg (fun X => (owns (c : Thread nD τ) xM fullShare X : sProp 𝕄)) (before_in m c d))) $$ Hx
  iapply (body_run (part m) K c) $$ [He Hs HO' Hb Hx' Ho]
  · isplitl [He]; · iexact He
    isplitl [Hs]; · iexact Hs
    isplitl [HO']; · iexact HO'
    isplitl [Hb]; · iexact Hb
    isplitl [Hx']; · iexact Hx'
    iapply (any_of_owns c); iexact Ho
  iintro ⟨HO, Hz, Hd, Hb, Hx, Ho⟩
  unfold post0 bufs
  isplitl [Hz Hd Hb Hr]
  · isplitl [Hz Hd]; · isplitl [Hz] <;> iassumption
    isplitl [Hb] <;> iassumption
  isplitl [HO]; · iapply (owes_out m c); iexact HO
  isplitl [Hx] <;> iassumption

/-! ## The region between the host stretches -/

/-- The protocol's share before the region is entered: its copy cells not yet open. -/
def held0 (K : GSem nD τ sig → ℕ) (c : Dev nD) : sProp 𝕄 :=
  iprop((bigSep (barCells ∪ copyCells) fun g => cellInv ER (rd (part m)) (K g) g) ∗ (bigSep barCells fun g => reached ER g 0)
    ∗ atPos ER (barCell c) 0 ∅ 0 ∗ (bigSep Finset.univ fun j : Fin 12 => openTok ER (dCell c j))
    ∗ (bigSep Finset.univ fun k : Fin 3 => toks c k) ∗ creds c)
def Tk (c : Dev nD) : sProp 𝕄 := iprop(∃ K, held0 m K c)
def Xk (c : Dev nD) : sProp 𝕄 := iprop(∃ K, env (part m) K c ∗ start c)

theorem inv_own (K : GSem nD τ sig → ℕ) (c : Dev nD) (j : Fin 12) :
    (bigSep (barCells ∪ copyCells) fun g => (cellInv ER (rd (part m)) (K g) g : sProp 𝕄))
      ⊢ cellInv ER (rd (part m)) (K (dCell c j)) (dCell c j) :=
  bigSep_elim (Finset.mem_union_right _
    (Finset.mem_map_of_mem ⟨fun x : Dev nD × Fin 12 => dCell x.1 x.2, dCell_injective⟩ (Finset.mem_univ (c, j))))

theorem open_one (K : GSem nD τ sig → ℕ) (c : Dev nD) (j : Fin 12) :
    iprop((bigSep (barCells ∪ copyCells) fun g => cellInv ER (rd (part m)) (K g) g) ∗ (openTok ER (dCell c j) ∗ semVal (dCell c j) 0))
      ⊢ (|={Set.univ}=> iprop(atPos ER (dCell c j) 0 ∅ 0 ∗ reached ER (dCell c j) 0) : sProp 𝕄) := by
  iintro ⟨#HI, Ho, Hv⟩
  iapply (Rounds.cell_open ER (rd (part m)) (g := dCell c j) (Set.mem_univ (K (dCell c j))))
  isplitr
  · iapply (inv_own m K c j); iexact HI
  isplitl [Ho] <;> iassumption

theorem open_all (K : GSem nD τ sig → ℕ) (c : Dev nD) :
    iprop((bigSep (barCells ∪ copyCells) fun g => cellInv ER (rd (part m)) (K g) g)
        ∗ ((bigSep Finset.univ fun j : Fin 12 => openTok ER (dCell c j)) ∗ bigSep Finset.univ fun j : Fin 12 => semVal (dCell c j) 0))
      ⊢ (|={Set.univ}=> iprop((bigSep Finset.univ fun j : Fin 12 => atPos ER (dCell c j) 0 ∅ 0)
          ∗ bigSep Finset.univ fun j : Fin 12 => reached ER (dCell c j) 0) : sProp 𝕄) := by
  rw [← bigSep_sep', ← bigSep_sep']
  exact (bigSep_with_persistent fun j _ => open_one m K c j).trans (bigSep_fupd _ _)

theorem ownSems_eq (c : Dev nD) : (Pipeline.ownSems0 osem c : sProp 𝕄) = bigSep Finset.univ fun j : Fin 12 => semVal (dCell c j) 0 := rfl

theorem hopen (c : Dev nD) : iprop(Tk m c ∗ Pipeline.ownSems0 osem c ∗ levAts L lv) ⊢ (|={Set.univ}=> Xk m c : sProp 𝕄) := by
  rw [ownSems_eq]
  unfold Tk Xk held0 env start
  iintro ⟨⟨%K, #HI, #HR, Hat, Hop, Ht, Hc⟩, Hv, #Hl⟩
  imod (open_all m K c) $$ [Hop Hv] with ⟨Hpos, #Hreach⟩
  · isplitr; · iexact HI
    isplitl [Hop] <;> iassumption
  imodintro
  iexists K
  isplitr
  · isplitr; · iexact HI
    isplitr; · iexact HR
    isplitr; · iexact Hreach
    iexact Hl
  isplitl [Hat]; · iexact Hat
  isplitl [Hpos]; · iexact Hpos
  isplitl [Ht]; · iexact Ht
  iexact Hc

theorem scoped_any (c : Dev nD) : (Pipeline.scopedRest (Ix := Unit) (Name := ℕ) (U := UU) (Lvl := ℕ) (Val := Elt F) spec0 c : sProp 𝕄) = bufs c := by
  rw [scopedRest0_eq]
  unfold bufs anyAt
  simp only [owns_whole]
  rfl

theorem hin (c : Dev nD) :
    iprop(Pipeline.scopedRest (Pipeline.pin (pcfgs (F := F)) adm 0).spec c ∗ (∃ r, prngReg c r)
        ∗ StableHlo.held (c.tc : Thread nD τ) ∅ (V7 m c) ∗ Xk m c)
      ⊢ ((pdats m 0 c).Φ 0 : sProp 𝕄) := by
  show iprop(Pipeline.scopedRest spec0 c ∗ (∃ r, prngReg c r) ∗ StableHlo.held (c.tc : Thread nD τ) ∅ (V7 m c) ∗ Xk m c) ⊢ pre0 m c
  rw [scoped_any]
  unfold pre0 Xk
  iintro ⟨Hb, Hr, -, HX⟩
  isplitl [HX]; · iexact HX
  isplitl [Hb] <;> iassumption

theorem phi_last (c : Dev nD) : ((dat0 m c).Φ (Fin.last cfg0.N) : sProp 𝕄) = post0 c := by
  show (if (Fin.last cfg0.N).val = 0 then pre0 m c else post0 c) = _
  exact if_neg last_val

theorem hout (c : Dev nD) :
    ((pdats m 0 c).Φ (Fin.last (Pipeline.pin (pcfgs (F := F)) adm 0).N) : sProp 𝕄)
      ⊢ iprop(Pipeline.scopedRest (Pipeline.pin (pcfgs (F := F)) adm 0).spec c ∗ (∃ r, prngReg c r)
        ∗ StableHlo.held (c.tc : Thread nD τ) ∅ (V8 m (outs m) c) ∗ Pipeline.ownSems0 osem c ∗ semVal (barCell c) 0) := by
  rw [ownSems_eq]
  show (dat0 m c).Φ (Fin.last cfg0.N) ⊢ iprop(Pipeline.scopedRest spec0 c ∗ (∃ r, prngReg c r)
    ∗ StableHlo.held (c.tc : Thread nD τ) ∅ (V8 m (outs m) c) ∗ (bigSep Finset.univ fun j : Fin 12 => semVal (dCell c j) 0) ∗ semVal (barCell c) 0)
  rw [scoped_any, phi_last]
  unfold post0
  iintro ⟨⟨Hz, Hd⟩, Hb, Hr⟩
  isplitl [Hb]; · iexact Hb
  isplitl [Hr]; · iexact Hr
  isplitr; · unfold StableHlo.held; rw [bigSep_empty]; iempintro
  isplitl [Hd] <;> iassumption

theorem owed_last (c : Dev nD) : (dat0 (F := F) m c).owed (Fin.last cfg0.N) = 0 := by
  show (if (Fin.last cfg0.N).val = 0 then O₀ c else 0) = _
  exact if_neg last_val

theorem stage_lv : ∀ (w : Fin 2) (s : Fin (spec0 w).nbuf), lvS (.dma ((spec0 w).sem s)) ≤ 0 := by decide

theorem owed_cut (c : Dev nD) (t : Fin (cfg0.N + 1)) (g : GSem nD τ sig) (i : Unit) (h : 0 < (dat0 m c).owed t g i) :
    i ∈ L g ∧ 0 < lv g i := by
  have e : (dat0 m c).owed t = if t.val = 0 then O₀ c else 0 := rfl
  rw [e] at h
  split at h
  · obtain ⟨j, -, rfl⟩ := rem_pos h
    exact ⟨item_L c j i, item_lv_pos c j i⟩
  · exact absurd h (Nat.lt_irrefl 0)

theorem final_in (c : Dev nD) : (dat0 m c).arrAt (0 : Fin 2) cfg0.N = V8 m (outs m) c (Proc.devRef .tc main_v46) :=
  ((dat0 m c).arrAt_in (0 : Fin 2) rfl _).trans (V8_of m (outs m) c main_v46 (by decide)).symm

theorem final_out (c : Dev nD) : (dat0 m c).arrAt (1 : Fin 2) cfg0.N = V8 m (outs m) c (Proc.devRef .tc main_v47) := by
  rw [V8_out]
  refine (dat0 m c).arrAt_eq_of_cover (1 : Fin 2) (total (part m) : Vec F S512x512 .f32) (fun t _ => ?_) (fun i => ⟨t0_0, flush0_1 t0_0, ?_⟩)
  · rw [fin_N0 t]; exact (read_out (total (part m))).symm
  · have h := ((win0_1).blk t0_0).view.emb_mem_set i
    rw [emb_out] at h
    exact h

/-- The buffers beside the call's two operands. -/
abbrev others : Finset (DevRef τ sig) := Pipeline.ucRefs τ sig \ Pipeline.arrRefs (τ := τ) spec0

theorem arr_sub : Pipeline.arrRefs (τ := τ) spec0 ⊆ Pipeline.ucRefs τ sig := Pipeline.arrRefs_sub_ucRefs spec0 (by decide)

theorem others_kept (c : Dev nD) (b : DevRef τ sig) (hb : b ∈ others \ ∅) : V8 m (outs m) c b = V7 m c b := by
  unfold V8
  refine Function.update_of_ne (fun h => ?_) _ _
  subst h
  refine (Finset.mem_sdiff.mp (Finset.mem_sdiff.mp hb).1).2 ?_
  exact Finset.mem_map_of_mem _ (Finset.mem_image_of_mem _ (Finset.mem_univ (1 : Fin 2)))

set_option backward.isDefEq.respectTransparency.types false in
/-- The call's region. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) launch0.toP rfl (fun c => (body_obligation m c).loose)
    (fun _ => 0) O₀ (fun c => (zero_add _).symm) (owed_last m) (fun _ => rfl) (fun c w => dat0_share m c w)
    (V7 m) (V8 m (outs m)) (others_kept m)
    (Tk m) (fun c => semVal (barCell c) 0) (Xk m) (fun c => semVal (barCell c) 0) (hopen m) (hin m) (hout m)
    (fun c => by iintro H; imodintro; iexact H)
    (fun _ => 0)
    ⟨fun c w s => by rw [L_tc]; exact Finset.mem_singleton_self _, fun c w s => stage_lv w s, fun c t g i h => owed_cut m c t g i h⟩
    (fun _ => iprop(emp))
    (fun c w => rfl) (fun c w => by
      match w with
      | ⟨0, _⟩ => exact final_in m c
      | ⟨1, _⟩ => exact final_out m c)

/-! ## The thread state around it -/

/-- Beside the buffers up to the call, and after it. -/
def E (i : Fin 2) (c : Dev nD) : sProp 𝕄 :=
  if i = 0 then iprop(Tk m c ∗ ow c 9 ∗ ∃ r, prngReg c r) else iprop(semVal (barCell c) 0 ∗ ow c 0)

theorem E_zero (c : Dev nD) : (E m 0 c : sProp 𝕄) = iprop(Tk m c ∗ ow c 9 ∗ ∃ r, prngReg c r) := rfl
theorem E_one (c : Dev nD) : (E m 1 c : sProp 𝕄) = iprop(semVal (barCell c) 0 ∗ ow c 0) := rfl

theorem reg0_pre (c : Dev nD) :
    iprop(StableHlo.held (c : Thread nD τ) (Pipeline.ucRefs τ sig) (V7 m c) ∗ E m 0 c) ⊢ (reg0 m).pre c := by
  show _ ⊢ iprop(StableHlo.held (c.tc : Thread nD τ) (Pipeline.arrRefs (τ := τ) spec0) (V7 m c) ∗ (∃ r, prngReg c r)
    ∗ (StableHlo.held (c.tc : Thread nD τ) others (V7 m c) ∗ emp) ∗ Tk m c ∗ ∃ Wd, owes (c : Thread nD τ) (0 + O₀ c) Wd)
  rw [StableHlo.held_sub_split (c.tc : Thread nD τ) arr_sub (V7 m c), zero_add, E_zero]
  unfold ow
  iintro ⟨⟨Ha, Ho⟩, HT, HO, Hr⟩
  isplitl [Ha]; · iexact Ha
  isplitl [Hr]; · iexact Hr
  isplitl [Ho]
  · isplitl [Ho]; · iexact Ho
    iempintro
  isplitl [HT]; · iexact HT
  iexact HO

theorem reg0_post (c : Dev nD) :
    (reg0 m).post c ⊢ iprop(StableHlo.held (c : Thread nD τ) (Pipeline.ucRefs τ sig) (V8 m (outs m) c) ∗ E m 1 c) := by
  show iprop(StableHlo.held (c.tc : Thread nD τ) (Pipeline.arrRefs (τ := τ) spec0) (V8 m (outs m) c) ∗ (∃ r, prngReg c r)
    ∗ (StableHlo.held (c.tc : Thread nD τ) others (V8 m (outs m) c) ∗ emp) ∗ semVal (barCell c) 0
    ∗ ∃ Wd, owes (c : Thread nD τ) (0 : CellTallies nD τ sig Unit) Wd) ⊢ _
  rw [StableHlo.held_sub_split (c.tc : Thread nD τ) arr_sub (V8 m (outs m) c), E_one]
  unfold ow
  iintro ⟨Ha, -, ⟨Ho, -⟩, Hz, HO⟩
  isplitl [Ha Ho]; · isplitl [Ha] <;> iassumption
  isplitl [Hz]; · iexact Hz
  iexact HO

end Cert.KernelIdeal.Talk
-- ==== Proof.IdealWhole.lean ====
/-
The program from launch to end: the protocol dealt to the devices, and one run of every device to its end.
-/
module

public import proofs.«01_k».proof.Proof.IdealLaunch
public import Idealize.ShloMosaic.Lib.Quiescent

@[expose] public section

set_option maxRecDepth 16384

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The protocol's cells and tokens -/

theorem cells_disjoint : Disjoint (barCells : Finset (GSem nD τ sig)) copyCells := by
  rw [Finset.disjoint_left]
  intro g h₁ h₂
  obtain ⟨c, -, rfl⟩ := Finset.mem_map.mp h₁
  obtain ⟨x, -, h⟩ := Finset.mem_map.mp h₂
  exact dma_ne_bar _ (congrArg Prod.snd h)

theorem barTok_inj : Function.Injective (fun x : Dev nD × Fin 3 => ((barCell x.1, 0, x.2) : GSem nD τ sig × ℕ × Fin 3)) := by
  rintro ⟨a, i⟩ ⟨b, j⟩ h
  have h1 := barCell_injective (congrArg Prod.fst h)
  have h2 : i = j := congrArg (fun t : GSem nD τ sig × ℕ × Fin 3 => t.2.2) h
  exact Prod.ext h1 h2
theorem copyTok_inj : Function.Injective (fun x : Dev nD × Fin 12 => ((dCell x.1 x.2, 0, 0) : GSem nD τ sig × ℕ × Fin 3)) :=
  fun a b h => dCell_injective (congrArg Prod.fst h)

/-- Three signals into every barrier cell, -/
def barToks : Finset (GSem nD τ sig × ℕ × Fin 3) := Finset.univ.map ⟨_, barTok_inj⟩
/-- one copy into every copy cell. -/
def copyToks : Finset (GSem nD τ sig × ℕ × Fin 3) := Finset.univ.map ⟨_, copyTok_inj⟩

theorem toks_disjoint : Disjoint barToks copyToks := by
  rw [Finset.disjoint_left]
  intro g h₁ h₂
  obtain ⟨c, -, rfl⟩ := Finset.mem_map.mp h₁
  obtain ⟨x, -, h⟩ := Finset.mem_map.mp h₂
  exact dma_ne_bar _ (congrArg (fun t : GSem nD τ sig × ℕ × Fin 3 => t.1.2) h)

/-- The protocol's part of the launch's element. -/
def uT : UT := launchOf barCells copyCells (barToks ∪ copyToks)
/-- The launch's element. -/
def u₀ : UU := (initOf (Pipeline.cells cfgs cellOf_inj) (Pipeline.launchToks cfgs cellOf_inj), uT)

/-- All of the protocol's part, on device 0 until the launch deals it. -/
def G (c : Dev nD) : sProp 𝕄 := if c = 0 then BI.own (ER uT) else iprop(emp)
theorem G_all : (bigSep Finset.univ G : sProp 𝕄) = BI.own (ER uT) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## The tokens, each to the device that pays -/

/-- A signal's payer and distance from its receiver's view: an involution. -/
def turn : Dev nD × Fin 3 ≃ Dev nD × Fin 3 where
  toFun x := (nx x.1 x.2, rv x.2)
  invFun x := (nx x.1 x.2, rv x.2)
  left_inv x := by show (nx (nx x.1 x.2) (rv x.2), rv (rv x.2)) = x; rw [nx_rv, rv_rv]
  right_inv x := by show (nx (nx x.1 x.2) (rv x.2), rv (rv x.2)) = x; rw [nx_rv, rv_rv]
/-- A copy's receiver at its distance. -/
def ahead : Dev nD × Fin 3 ≃ Dev nD × Fin 3 where
  toFun x := (nx x.1 x.2, x.2)
  invFun x := (pv x.1 x.2, x.2)
  left_inv x := by show (pv (nx x.1 x.2) x.2, x.2) = x; rw [pv_nx]
  right_inv x := by show (nx (pv x.1 x.2) x.2, x.2) = x; rw [nx_pv]

/-- Over the twelve copy semaphores: over the four families of three. -/
theorem sep_families (Φ : Fin 12 → sProp 𝕄) :
    bigSep Finset.univ Φ = iprop((bigSep Finset.univ fun k : Fin 3 => Φ (jrs k)) ∗ (bigSep Finset.univ fun k : Fin 3 => Φ (jrr k))
      ∗ (bigSep Finset.univ fun k : Fin 3 => Φ (jas k)) ∗ bigSep Finset.univ fun k : Fin 3 => Φ (jar k)) := by
  rw [sep12, sep3, sep3, sep3, sep3]
  have h₁ : iprop(Φ 0 ∗ Φ 1 ∗ Φ 2 ∗ Φ 3 ∗ Φ 4 ∗ Φ 5 ∗ Φ 6 ∗ Φ 7 ∗ Φ 8 ∗ Φ 9 ∗ Φ 10 ∗ Φ 11)
      ⊢ iprop((Φ 0 ∗ Φ 1 ∗ Φ 2) ∗ (Φ 3 ∗ Φ 4 ∗ Φ 5) ∗ (Φ 6 ∗ Φ 7 ∗ Φ 8)
        ∗ Φ 9 ∗ Φ 10 ∗ Φ 11) := by
    iintro ⟨H0, H1, H2, H3, H4, H5, H6, H7, H8, H9, H10, H11⟩
    isplitl [H0 H1 H2]
    · isplitl [H0]; · iexact H0
      isplitl [H1] <;> iassumption
    isplitl [H3 H4 H5]
    · isplitl [H3]; · iexact H3
      isplitl [H4] <;> iassumption
    isplitl [H6 H7 H8]
    · isplitl [H6]; · iexact H6
      isplitl [H7] <;> iassumption
    isplitl [H9]; · iexact H9
    isplitl [H10] <;> iassumption
  have h₂ : iprop((Φ 0 ∗ Φ 1 ∗ Φ 2) ∗ (Φ 3 ∗ Φ 4 ∗ Φ 5) ∗ (Φ 6 ∗ Φ 7 ∗ Φ 8)
        ∗ Φ 9 ∗ Φ 10 ∗ Φ 11)
      ⊢ iprop(Φ 0 ∗ Φ 1 ∗ Φ 2 ∗ Φ 3 ∗ Φ 4 ∗ Φ 5 ∗ Φ 6 ∗ Φ 7 ∗ Φ 8 ∗ Φ 9 ∗ Φ 10 ∗ Φ 11) := by
    iintro ⟨⟨H0, H1, H2⟩, ⟨H3, H4, H5⟩, ⟨H6, H7, H8⟩, H9, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10] <;> iassumption
  exact BI.Entails.antisymm h₁ h₂

theorem deal_bar :
    bigSep barToks (fun x => (dutyTok ER x.1 x.2.1 x.2.2 : sProp 𝕄))
      = bigSep Finset.univ fun c : Dev nD => bigSep Finset.univ fun k : Fin 3 => dutyTok ER (barCell (nx c k)) 0 (rv k) := by
  unfold barToks
  rw [bigSep_map, bigSep_univ_equiv turn, bigSep_univ_prod]
  rfl

theorem deal_copy :
    bigSep copyToks (fun x => (dutyTok ER x.1 x.2.1 x.2.2 : sProp 𝕄))
      = iprop((bigSep Finset.univ fun c : Dev nD => bigSep Finset.univ fun k : Fin 3 => dutyTok ER (dCell c (jrs k)) 0 0)
        ∗ (bigSep Finset.univ fun c : Dev nD => bigSep Finset.univ fun k : Fin 3 => dutyTok ER (dCell (nx c k) (jrr k)) 0 0)
        ∗ (bigSep Finset.univ fun c : Dev nD => bigSep Finset.univ fun k : Fin 3 => dutyTok ER (dCell c (jas k)) 0 0)
        ∗ (bigSep Finset.univ fun c : Dev nD => bigSep Finset.univ fun k : Fin 3 => dutyTok ER (dCell (nx c k) (jar k)) 0 0)) := by
  have turned (j : Fin 3 → Fin 12) :
      (bigSep Finset.univ fun c : Dev nD => bigSep Finset.univ fun k : Fin 3 => (dutyTok ER (dCell c (j k)) 0 0 : sProp 𝕄))
        = bigSep Finset.univ fun c : Dev nD => bigSep Finset.univ fun k : Fin 3 => dutyTok ER (dCell (nx c k) (j k)) 0 0 := by
    rw [← bigSep_univ_prod (fun x : Dev nD × Fin 3 => (dutyTok ER (dCell x.1 (j x.2)) 0 0 : sProp 𝕄)),
      bigSep_univ_equiv ahead, bigSep_univ_prod]
    rfl
  unfold copyToks
  rw [bigSep_map, bigSep_univ_prod]
  show (bigSep Finset.univ fun c : Dev nD => bigSep Finset.univ fun j : Fin 12 => (dutyTok ER (dCell c j) 0 0 : sProp 𝕄)) = _
  rw [bigSep_congr (s := Finset.univ) fun (c : Dev nD) _ => sep_families (fun j : Fin 12 => (dutyTok ER (dCell c j) 0 0 : sProp 𝕄)),
    bigSep_sep', bigSep_sep', bigSep_sep', turned jrr, turned jar]

theorem deal :
    (bigSep (barToks ∪ copyToks) fun x => (dutyTok ER x.1 x.2.1 x.2.2 : sProp 𝕄))
      ⊢ bigSep Finset.univ fun c : Dev nD => bigSep Finset.univ fun k : Fin 3 => toks c k := by
  have hs : (bigSep (barToks ∪ copyToks) fun x => (dutyTok ER x.1 x.2.1 x.2.2 : sProp 𝕄))
      ⊢ iprop((bigSep barToks fun x => (dutyTok ER x.1 x.2.1 x.2.2 : sProp 𝕄)) ∗ bigSep copyToks fun x => dutyTok ER x.1 x.2.1 x.2.2) :=
    Entails.of_eq (bigSep_union toks_disjoint)
  refine BIBase.Entails.trans hs ?_
  rw [deal_bar, deal_copy]
  unfold toks
  simp only [bigSep_sep']
  iintro ⟨H1, H2, H3, H4, H5⟩
  isplitl [H1]; · iexact H1
  isplitl [H2 H3]; · isplitl [H2] <;> iassumption
  isplitl [H4] <;> iassumption

/-! ## The launch's credits -/

theorem nx_inj (k : Fin 3) (c : Dev nD) : nx (pv c k) k = c := nx_pv c k

theorem cred_step (c : Dev nD) (i : ℕ) (k : Fin 3) (sm : SemLoc sig) (n : ℕ)
    (hc : ∀ d : Dev nD, itemCell d i = ((nx d k : Thread nD τ), sm)) (hn : itemAmt i = n) :
    (Pipeline.launchCred (fun d : Dev nD => rem d (i + 1)) c : sProp 𝕄)
      ⊢ iprop(Pipeline.launchCred (fun d : Dev nD => rem d i) c ∗ cred (tallyAt ((c : Thread nD τ), sm) () n)) := by
  subst hn
  rw [show (fun d : Dev nD => rem d (i + 1)) = fun d => rem d i + tallyAt ((nx d k : Thread nD τ), sm) () (itemAmt i) from
      funext fun d => by rw [← hc d]; rfl, Pipeline.launchCred_add]
  exact sep_mono_right (Pipeline.launchCred_tallyAt sm (nx · k) (pv · k) (nx_pv · k) (pv_nx · k) () (itemAmt i) c)

theorem three_units (c : Dev nD) :
    iprop(cred (tallyAt (barCell c) () 1) ∗ cred (tallyAt (barCell c) () 1) ∗ cred (tallyAt (barCell c) () 1))
      ⊢ (cred (tallyAt (barCell c) () 3) : sProp 𝕄) := by
  have h : (tallyAt (barCell c) () 3 : CellTallies nD τ sig Unit)
      = tallyAt (barCell c) () 1 + (tallyAt (barCell c) () 1 + tallyAt (barCell c) () 1) := by
    rw [tallyAt_add, tallyAt_add]
  rw [h]
  exact (sep_mono_right (cred_add _ _).2).trans (cred_add _ _).2

theorem launch_creds (c : Dev nD) : (Pipeline.launchCred O₀ c : sProp 𝕄) ⊢ creds c := by
  unfold creds
  iintro H
  ihave H := (cred_step (F := F) c 8 0 (.reg barS) 1 (fun _ => rfl) rfl) $$ H; icases H with ⟨H, B0⟩
  ihave H := (cred_step (F := F) c 7 1 (.reg barS) 1 (fun _ => rfl) rfl) $$ H; icases H with ⟨H, B1⟩
  ihave H := (cred_step (F := F) c 6 2 (.reg barS) 1 (fun _ => rfl) rfl) $$ H; icases H with ⟨H, B2⟩
  ihave H := (cred_step (F := F) c 5 0 (.dma (dS (jrr 0))) N (fun _ => rfl) rfl) $$ H; icases H with ⟨H, R0⟩
  ihave H := (cred_step (F := F) c 4 1 (.dma (dS (jrr 1))) N (fun _ => rfl) rfl) $$ H; icases H with ⟨H, R1⟩
  ihave H := (cred_step (F := F) c 3 2 (.dma (dS (jrr 2))) N (fun _ => rfl) rfl) $$ H; icases H with ⟨H, R2⟩
  ihave H := (cred_step (F := F) c 2 0 (.dma (dS (jar 0))) N (fun _ => rfl) rfl) $$ H; icases H with ⟨H, A0⟩
  ihave H := (cred_step (F := F) c 1 1 (.dma (dS (jar 1))) N (fun _ => rfl) rfl) $$ H; icases H with ⟨H, A1⟩
  ihave H := (cred_step (F := F) c 0 2 (.dma (dS (jar 2))) N (fun _ => rfl) rfl) $$ H; icases H with ⟨-, A2⟩
  isplitl [B0 B1 B2]
  · iapply (three_units c)
    isplitl [B0]; · iexact B0
    isplitl [B1] <;> iassumption
  isplitl [R0 R1 R2]
  · iapply (Entails.of_eq (sep3 (F := F) _).symm)
    isplitl [R0]; · iexact R0
    isplitl [R1] <;> iassumption
  · iapply (Entails.of_eq (sep3 (F := F) _).symm)
    isplitl [A0]; · iexact A0
    isplitl [A1] <;> iassumption

/-! ## The launch -/

theorem unscoped_sem (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What of a device's launch state is not the protocol's. -/
def own0 (c : Dev nD) : sProp 𝕄 := iprop(creds c ∗ ow c 9 ∗ ∃ r, prngReg c r)

theorem own0_intro (c : Dev nD) :
    iprop(unscopedSems0 c ∗ owes (c : Thread nD τ) (O₀ c) ∅ ∗ Pipeline.launchCred O₀ c ∗ prngReg c (ρ c) ∗ G c)
      ⊢ (iprop(own0 c ∗ semVal (barCell c) 0 ∗ G c) : sProp 𝕄) := by
  rw [unscoped_sem]
  unfold own0 ow
  iintro ⟨Hz, HO, Hc, Hr, HG⟩
  isplitl [HO Hc Hr]
  · isplitl [Hc]; · iapply (launch_creds c); iexact Hc
    isplitl [HO]; · iexists ∅; iexact HO
    iexists (ρ c); iexact Hr
  isplitl [Hz] <;> iassumption

/-- What every device may read of the protocol. -/
def records (K : GSem nD τ sig → ℕ) : sProp 𝕄 :=
  iprop((bigSep (barCells ∪ copyCells) fun g => cellInv ER (rd (part m)) (K g) g) ∗ bigSep barCells fun g => reached ER g 0)
instance records_persistent (K : GSem nD τ sig → ℕ) : BI.Persistent (records m K) := by unfold records; infer_instance

theorem E_intro (K : GSem nD τ sig → ℕ) (c : Dev nD) :
    iprop(records m K ∗ ((atPos ER (barCell c) 0 ∅ 0 ∗ (bigSep Finset.univ fun j : Fin 12 => openTok ER (dCell c j))
        ∗ bigSep Finset.univ fun k : Fin 3 => toks c k) ∗ own0 c)) ⊢ E m 0 c := by
  rw [E_zero]
  unfold records own0 Tk held0
  iintro ⟨⟨#HI, #HR⟩, ⟨Ha, Ho, Ht⟩, Hc, HO, Hr⟩
  isplitl [Ha Ho Ht Hc]
  · iexists K
    isplitr; · iexact HI
    isplitr; · iexact HR
    isplitl [Ha]; · iexact Ha
    isplitl [Ho]; · iexact Ho
    isplitl [Ht]; · iexact Ht
    iexact Hc
  isplitl [HO] <;> iassumption

theorem init :
    iprop((bigSep Finset.univ fun c : Dev nD => iprop(unscopedSems0 c ∗ owes (c : Thread nD τ) (O₀ c) ∅ ∗ Pipeline.launchCred O₀ c
          ∗ prngReg c (ρ c) ∗ G c)) ∗ levAts L lv)
      ⊢ (|={Set.univ}=> bigSep Finset.univ (E m 0) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) ⟨barCell, barCell_injective⟩ (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) ⟨barCell, barCell_injective⟩ (Φ := fun g : GSem nD τ sig => (atPos ER g 0 ∅ 0 : sProp 𝕄)))
  have hopen : bigSep copyCells (fun g => (openTok ER g : sProp 𝕄))
      ⊢ bigSep Finset.univ (fun c : Dev nD => bigSep Finset.univ fun j : Fin 12 => (openTok ER (dCell c j) : sProp 𝕄)) :=
    Entails.of_eq (by unfold copyCells; rw [bigSep_map, bigSep_univ_prod]; rfl)
  have hsplit : (bigSep Finset.univ fun c : Dev nD => iprop(unscopedSems0 c ∗ owes (c : Thread nD τ) (O₀ c) ∅ ∗ Pipeline.launchCred O₀ c
          ∗ prngReg c (ρ c) ∗ G c))
      ⊢ (iprop((bigSep Finset.univ own0) ∗ (bigSep Finset.univ fun c : Dev nD => semVal (barCell c) 0) ∗ BI.own (ER uT)) : sProp 𝕄) := by
    rw [← G_all, ← bigSep_sep', ← bigSep_sep']
    exact bigSep_mono fun c _ => own0_intro ρ c
  iintro ⟨H, -⟩
  ihave H' := hsplit $$ H
  icases H' with ⟨HB, Hv, Hu⟩
  unfold uT
  imod (Rounds.fund_launch ER (rd (part m)) cells_disjoint (fun g _ h => h) (barToks ∪ copyToks)) $$ [Hv Hu] with ⟨%K, -, #Hinv, #Hr, Hat, Hopen, Htok⟩
  · isplitl [Hv]
    · iapply hv $$ Hv
    · iexact Hu
  imodintro
  iapply (bigSep_with_persistent (R := records m K) (Φ := fun c => iprop((atPos ER (barCell c) 0 ∅ 0
      ∗ (bigSep Finset.univ fun j : Fin 12 => openTok ER (dCell c j)) ∗ bigSep Finset.univ fun k : Fin 3 => toks c k) ∗ own0 c))
    fun c _ => E_intro m K c)
  isplitr
  · unfold records
    isplitr; · iexact Hinv
    iexact Hr
  rw [bigSep_sep', bigSep_sep', bigSep_sep']
  isplitr [HB]
  · isplitl [Hat]; · iapply hat $$ Hat
    isplitl [Hopen]; · iapply hopen $$ Hopen
    iapply (deal (F := F)) $$ Htok
  · iexact HB

/-! ## The run -/

theorem unscoped_one : ∀ sm : SemLoc sig, sm.isScoped .tc = false → sm = .reg barS := by decide

/-- A device's final memory: its arguments as launched, its result the host's last stretch of the totals, its barrier counter zero. -/
def Final (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v48) = V9 m (outs m) c (Proc.devRef .tc main_v48)
  ∧ s.sem (barCell c) = 0

theorem read_end (c : Dev nD) (s' : Phys nD τ sig (Elt F)) :
    iprop((StableHlo.held (c : Thread nD τ) (Pipeline.ucRefs τ sig) (V9 m (outs m) c) ∗ semVal (barCell c) 0) ∗ SI s')
      ⊢ (|={Set.univ}=> iprop(⌜Final m c s'.mem⌝ ∗ SI s') : sProp 𝕄) := by
  unfold StableHlo.held
  iintro ⟨⟨Hh, Hz⟩, HSI⟩
  icombine HSI Hz gives %hz
  ihave Hr := (pointsTo_read_all (Pipeline.ucRefs τ sig) (fun b => ((c : Thread nD τ).1, b)) (V9 m (outs m) c) s') $$ [Hh HSI]
  · isplitl [Hh] <;> iassumption
  icases Hr with ⟨%h, HSI⟩
  imodintro
  isplitr
  · ipureintro
    have at' (r : Ref sig .tc) (hr : ¬ (Proc.devRef .tc r : DevRef τ sig).isScoped) :
        s'.mem.mem ((c.tc : Thread nD τ).loc r) = V9 m (outs m) c (Proc.devRef .tc r) :=
      h (Proc.devRef .tc r) (Finset.mem_filter.mpr ⟨StableHlo.devRef_mem_tcRefs r, hr⟩)
    exact ⟨⟨(at' main_arg0 (by decide)).trans (V9_main_arg0 m (outs m) c), (at' main_arg1 (by decide)).trans (V9_main_arg1 m (outs m) c),
      (at' main_arg2 (by decide)).trans (V9_main_arg2 m (outs m) c), (at' main_arg3 (by decide)).trans (V9_main_arg3 m (outs m) c),
      (at' main_arg4 (by decide)).trans (V9_main_arg4 m (outs m) c)⟩, at' main_v48 (by decide), by simpa using hz⟩
  · iexact HSI

set_option backward.isDefEq.respectTransparency.types false in
/-- Every weakly fair run from any memory with zero counters ends, with every device's memory final and every counter zero. -/
theorem run_main : θ_run defs (onTc (τ := τ) (main (F := F))) ⟨m, fun _ => 0, ρ⟩
    (fun r => (∀ c : Dev nD, Final m c r.2) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (reg0 m))
    (fun c Q => by
      rewrite [main_chain c, Pipeline.Seg.run_eq_chain,
        show (segs m (outs m) 𝒱₀ L lv (E m) () (pdats m) (reg0 m) c).map Pipeline.Seg.prog = [
          StableHlo.seq (hostOps0 c), StableHlo.seq hostOps0_1, StableHlo.seq hostOps0_2, StableHlo.seq hostOps0_3,
          StableHlo.seq hostOps0_4, StableHlo.seq hostOps0_5, StableHlo.seq hostOps0_6,
          Prog.lift (.customCall (Pipeline.entry 0) ()), StableHlo.seq hostOps1 ] from rfl]
      dsimp (config := { failIfUnchanged := false }) only
      exact .rfl)
    (fun c => by simp only [segs, Pipeline.Seg.pipes_host, Pipeline.Seg.pipes_region, Pipeline.Seg.pipes_nil]; decide) O₀ L_of_ne G u₀
    (by
      unfold u₀
      iintro Hu
      ihave H := (ownU_pair _ _) $$ Hu
      icases H with ⟨HP, HX⟩
      imodintro
      isplitl [HP]; · iexact HP
      iapply (Entails.of_eq G_all.symm); iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V9 m (outs m) c) ∗ semVal (barCell c) 0))
    (hch := fun c => ⟨.rfl, .rfl, .rfl, .rfl, .rfl, .rfl, .rfl, reg0_pre m c, reg0_post m c, ?_⟩)
    (hinit := ?_) (QY := fun c s => Final m c s) (hfin := fun c s' => read_end m c s')
    (hQ := fun s h hs => ⟨h, sem_eq_zero hs fun c sm hsm => by
      obtain rfl := unscoped_one sm hsm
      exact (h c).2.2⟩)
  · show iprop(StableHlo.held (c : Thread nD τ) (Pipeline.ucRefs τ sig) (V9 m (outs m) c) ∗ E m 1 c)
      ⊢ iprop((StableHlo.held (c : Thread nD τ) (Pipeline.ucRefs τ sig) (V9 m (outs m) c) ∗ semVal (barCell c) 0)
        ∗ ∃ W, owes (c : Thread nD τ) (0 : CellTallies nD τ sig Unit) W)
    rw [E_one]
    unfold ow
    iintro ⟨Hh, Hz, HO⟩
    isplitl [Hh Hz]; · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init m ρ) $$ [Hr Hla] with HE
    · isplitl [Hr]; · iexact Hr
      iexact Hla
    imodintro
    rw [bigSep_sep']
    isplitl [Hh]; · iexact Hh
    iexact HE

end Cert.KernelIdeal.Talk
-- ==== Proof.IdealTerm.lean ====
/-
  One device's partial product as a term of its arguments: what the host's operations before the call compute, in named stages.
-/
module

public import proofs.«01_k».proof.Proof.IdealLaunch
public import Idealize.ShloMosaic.Lib.Claim
public import Idealize.ShloMosaic.Lib.StableHlo.RunClose

@[expose] public section

set_option maxRecDepth 16384

noncomputable section

namespace Cert.KernelIdeal.Term

open Cert.KernelIdeal Cert.KernelIdeal.Gen Idealize.ShloMosaic Idealize.ShloMosaic.TcCoe

variable {F : FTy → Type} [FloatOps F]

/-- The row numbers divided by 64, rounding down, as the program spells it. -/
def blockNo : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32))))
        (broadcastInDim S256 ![] bcast_S_S256 (constantI S_ 32 0#32))))
    (subi (Host.divsi (iotaInDim S256 32 0) (broadcastInDim S256 ![] bcast_S_S256 (id (constantI S_ 32 64#32))))
      (broadcastInDim S256 ![] bcast_S_S256 (constantI S_ 32 1#32)))
    (Host.divsi (iotaInDim S256 32 0) (broadcastInDim S256 ![] bcast_S_S256 (id (constantI S_ 32 64#32))))

/-- The block-causal mask: column j is kept in row i when j's block number is at most i's. -/
def mask : IVec S256x256 1 :=
  cmpi .sle (broadcastInDim S256x256 ![0, 1] bcast_S1x256_S256x256_0_1 (broadcastInDim S1x256 ![1] bcast_S256_S1x256_1 blockNo))
    (broadcastInDim S256x256 ![0, 1] bcast_S256x1_S256x256_0_1 (broadcastInDim S256x1 ![0] bcast_S256_S256x1_0 blockNo))

/-- The device's number within its row of the mesh, times four: its first head, before the wrap of a negative number. -/
def firstRaw (c : Dev nD) : IVec S_ 32 :=
  muli (id (Host.remui (Host.divui (constantI S_ 32 (Dev.word c)) (constantI S_ 32 1#32)) (constantI S_ 32 4#32))) (constantI S_ 32 4#32)
/-- The device's first head. -/
def first (c : Dev nD) : IVec S_ 32 :=
  select (cmpi .slt (firstRaw c) (constantI S_ 32 0#32)) (addi (firstRaw c) (constantI S_ 32 16#32)) (firstRaw c)

/-- The device's four heads of the keys or the values. -/
def heads (c : Dev nD) (x : FVec F S2x256x16x64 .f32) : FVec F S2x256x4x64 .f32 :=
  Host.dynamicSlice S2x256x4x64 x
    (fun k => ((![constantI S_ 32 0#32, constantI S_ 32 0#32, first c, constantI S_ 32 0#32] : Fin 4 → IVec S_ 32) k (Shape.Idx.first h_S_)).toInt)
    sliceFits_S2x256x16x64_S2x256x4x64

/-- The device's queries. -/
def queries (x : FVec F S2x256x512 .f32) (wq : FVec F S512x256 .f32) : FVec F S2x256x4x64 .f32 :=
  shapeCast S2x256x4x64 (Host.dotGeneral dot_S512x512_S512x256_S512x256_1_0_0_1_n_n none
    (shapeCast S512x512 x shapeCasts_S2x256x512_S512x512) wq) shapeCasts_S512x256_S2x256x4x64

/-- The scaled scores of queries against keys. -/
def scores (q k : FVec F S2x256x4x64 .f32) : FVec F S2x4x256x256 .f32 :=
  mulf (Host.dotGeneral dot_S2x256x4x64_S2x256x4x64_S2x4x256x256_3_3_1_1_02_02 none q k)
    (broadcastInDim S2x4x256x256 ![] bcast_S_S2x4x256x256 (constant S_ .f32 0x3E000000#32))

/-- The scores with the masked columns at the literal −1e9. -/
def masked (s : FVec F S2x4x256x256 .f32) (w : IVec S256x256 1) : FVec F S2x4x256x256 .f32 :=
  select (broadcastInDim S2x4x256x256 ![0, 1, 2, 3] bcast_S1x1x256x256_S2x4x256x256_0_1_2_3
      (broadcastInDim S1x1x256x256 ![2, 3] bcast_S256x256_S1x1x256x256_2_3 w)) s
    (broadcastInDim S2x4x256x256 ![] bcast_S_S2x4x256x256 (id (constant S_ .f32 0xCE6E6B28#32)))

/-- The exponentials of the scores less their row's maximum. -/
def exps (s : FVec F S2x4x256x256 .f32) : FVec F S2x4x256x256 .f32 :=
  Host.exp (subf s (broadcastInDim S2x4x256x256 ![0, 1, 2, 3] bcast_S2x4x256x1_S2x4x256x256_0_1_2_3
    (broadcastInDim S2x4x256x1 ![0, 1, 2] bcast_S2x4x256_S2x4x256x1_0_1_2
      (maximumf (broadcastInDim S2x4x256 ![] bcast_S_S2x4x256 (constant S_ .f32 0xFF800000#32))
        (Host.reduce FloatOps.maximumf s (constant S_ .f32 0xFF800000#32) reducesTo_S2x4x256x256_S2x4x256_d3 h_S_)))))

/-- The exponentials divided by their row's sum. -/
def weights (e : FVec F S2x4x256x256 .f32) : FVec F S2x4x256x256 .f32 :=
  Host.divf e (broadcastInDim S2x4x256x256 ![0, 1, 2, 3] bcast_S2x4x256x1_S2x4x256x256_0_1_2_3
    (broadcastInDim S2x4x256x1 ![0, 1, 2] bcast_S2x4x256_S2x4x256x1_0_1_2
      (Host.reduceAdd e (constant S_ .f32 0x00000000#32) reducesTo_S2x4x256x256_S2x4x256_d3 h_S_)))

/-- The weighted values, row by row, and their product with the device's rows of the output projection. -/
def product (v : FVec F S2x256x4x64 .f32) (w : FVec F S2x4x256x256 .f32) (wo : FVec F S256x512 .f32) : FVec F S512x512 .f32 :=
  Host.dotGeneral dot_S512x256_S256x512_S512x512_1_0_0_1_n_n none
    (shapeCast S512x256 (transpose S2x256x4x64 [0, 3, 1, 2]
      (Host.dotGeneral dot_S2x256x4x64_S2x4x256x256_S2x4x64x256_1_3_3_2_02_01 none v w) transposes_S2x4x64x256_S2x256x4x64_0_3_1_2)
      shapeCasts_S2x256x4x64_S512x256) wo

variable (m : (ℓ : Loc nD τ sig) → Buf (Elt F) ℓ) (c : Dev nD)

theorem V1_scores : V1 m c main_v20
    = scores (queries (m ((c.tc : Thread nD τ).loc main_arg0)) (m ((c.tc : Thread nD τ).loc main_arg1)))
        (heads c (m ((c.tc : Thread nD τ).loc main_arg2))) := by
  unfold_abbrev_sides; after_results_simp_entrywise; rfl
theorem V1_vals : V1 m c main_v17 = heads c (m ((c.tc : Thread nD τ).loc main_arg3)) := by
  unfold_abbrev_sides; after_results_simp_entrywise; rfl
theorem V1_iota : V1 m c main_v21 = iotaInDim S256 32 0 := by
  unfold_abbrev_sides; after_results_simp <;> rfl
theorem V1_64 : V1 m c main_c_13 = constantI S_ 32 64#32 := by
  unfold_abbrev_sides; after_results_simp <;> rfl

theorem V2_block : V2 m c main_v22 = blockNo := by
  have h1 := V1_iota m c
  have h2 := V1_64 m c
  show StableHlo.after hostOps0_1 (V1 m c) (Proc.devRef .tc main_v22) = blockNo
  generalize V1 m c = W at h1 h2 ⊢
  simp only [hostOps0_1, StableHlo.TRef.binary, StableHlo.TRef.nullary, StableHlo.TRef.ternary, StableHlo.TRef.unary, StableHlo.TRef.toBuf, StableHlo.TRef.ofBuf, cast_eq]
  after_results_simp
  rw [h1, h2]; rfl
theorem V4_block : V4 m c main_v24 = blockNo := by
  show StableHlo.after hostOps0_3 (StableHlo.after hostOps0_2 (V2 m c)) (Proc.devRef .tc main_v24) = blockNo
  generalize V2 m c = W
  simp only [hostOps0_3, hostOps0_2, StableHlo.TRef.binary, StableHlo.TRef.nullary, StableHlo.TRef.ternary, StableHlo.TRef.unary, StableHlo.TRef.toBuf, StableHlo.TRef.ofBuf, cast_eq]
  after_results_simp <;> rfl
theorem V6_masked : V6 m c main_v31 = masked (V1 m c main_v20) mask := by
  have h1 := V4_block m c
  have h2 : V4 m c main_v22 = blockNo := (V4_of m c main_v22 (by decide)).trans ((V3_of m c main_v22 (by decide)).trans (V2_block m c))
  have h3 : V4 m c main_v20 = V1 m c main_v20 :=
    (V4_of m c main_v20 (by decide)).trans ((V3_of m c main_v20 (by decide)).trans (V2_of m c main_v20 (by decide)))
  rw [← h3]
  show StableHlo.after hostOps0_5 (StableHlo.after hostOps0_4 (V4 m c)) (Proc.devRef .tc main_v31) = masked (V4 m c main_v20) mask
  generalize V4 m c = W at h1 h2 ⊢
  simp only [hostOps0_5, hostOps0_4, StableHlo.TRef.binary, StableHlo.TRef.nullary, StableHlo.TRef.ternary, StableHlo.TRef.unary, StableHlo.TRef.toBuf, StableHlo.TRef.ofBuf, cast_eq]
  after_results_simp
  rw [h1, h2]; rfl
theorem V7_product : V7 m c main_v46
    = product (V6 m c main_v17) (weights (exps (V6 m c main_v31))) (V6 m c main_arg4) := by
  show StableHlo.after hostOps0_6 (V6 m c) (Proc.devRef .tc main_v46) = _
  generalize V6 m c = W
  after_results_simp <;> rfl

/-- The device's partial product, of its arguments' contents. -/
def share (x : FVec F S2x256x512 .f32) (wq : FVec F S512x256 .f32) (k v : FVec F S2x256x16x64 .f32) (wo : FVec F S256x512 .f32) :
    FVec F S512x512 .f32 :=
  product (heads c v) (weights (exps (masked (scores (queries x wq) (heads c k)) mask))) wo

/-- What the call finds as its operand on a device. -/
theorem part_eq : Talk.part m c = share c (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  have hv : V6 m c main_v17 = V1 m c main_v17 :=
    (V6_of m c main_v17 (by decide)).trans <| (V5_of m c main_v17 (by decide)).trans <| (V4_of m c main_v17 (by decide)).trans <|
      (V3_of m c main_v17 (by decide)).trans (V2_of m c main_v17 (by decide))
  have ho : V6 m c main_arg4 = m ((c.tc : Thread nD τ).loc main_arg4) :=
    (V6_of m c main_arg4 (by decide)).trans <| (V5_of m c main_arg4 (by decide)).trans <| (V4_of m c main_arg4 (by decide)).trans <|
      (V3_of m c main_arg4 (by decide)).trans <| (V2_of m c main_arg4 (by decide)).trans <| (V1_of m c main_arg4 (by decide)).trans rfl
  show V7 m c main_v46 = _
  rw [V7_product, V6_masked, hv, ho, V1_scores, V1_vals]
  rfl

end Cert.KernelIdeal.Term
-- ==== Proof.IdealRead.lean ====
/-
  The stages of one device's partial product over the extended reals, entry by entry.
-/
module

public import proofs.«01_k».proof.Proof.IdealTerm
public import Idealize.ShloMosaic.Lib.Pointwise

@[expose] public section

set_option maxRecDepth 16384

noncomputable section

namespace Cert.KernelIdeal.Term

open Cert.KernelIdeal Cert.KernelIdeal.Gen Idealize.ShloMosaic Idealize.ShloMosaic.TcCoe

theorem queries_apply (x : FVec Ideal S2x256x512 .f32) (wq : FVec Ideal S512x256 .f32) (b : Fin 2) (i : Fin 256) (h : Fin 4) (d : Fin 64) :
    queries x wq (ix4 b i h d) = ∑ k : Fin 512, x (ix3 b i k) * wq (ix2 k ⟨h * 64 + d, by omega⟩) := by
  pointwise [queries]

theorem scores_apply (q k : FVec Ideal S2x256x4x64 .f32) (b : Fin 2) (h : Fin 4) (i j : Fin 256) :
    scores q k (ix4 b h i j) = (∑ d : Fin 64, q (ix4 b i h d) * k (ix4 b j h d)) * Ideal.ofBits .f32 0x3E000000#32 := by
  pointwise [scores]

theorem masked_apply (s : FVec Ideal S2x4x256x256 .f32) (w : IVec S256x256 1) (b : Fin 2) (h : Fin 4) (i j : Fin 256) :
    masked s w (ix4 b h i j) = Scalar.select (w (ix2 i j)) (s (ix4 b h i j)) (Ideal.ofBits .f32 0xCE6E6B28#32) := by
  pointwise [masked, id_eq]

theorem exps_apply (s : FVec Ideal S2x4x256x256 .f32) (b : Fin 2) (h : Fin 4) (i j : Fin 256) :
    exps s (ix4 b h i j) = Ideal.exp (s (ix4 b h i j)
      - max (Ideal.ofBits .f32 0xFF800000#32) (Finset.univ.fold max (Ideal.ofBits .f32 0xFF800000#32) fun k : Fin 256 => s (ix4 b h i k))) := by
  pointwise [exps]

theorem weights_apply (e : FVec Ideal S2x4x256x256 .f32) (b : Fin 2) (h : Fin 4) (i j : Fin 256) :
    weights e (ix4 b h i j) = Ideal.div (e (ix4 b h i j)) (∑ k : Fin 256, e (ix4 b h i k)) := by
  pointwise [weights]

theorem product_apply (v : FVec Ideal S2x256x4x64 .f32) (w : FVec Ideal S2x4x256x256 .f32) (wo : FVec Ideal S256x512 .f32)
    (r n : Fin 512) :
    product v w wo (ix2 r n) = ∑ k : Fin 256, (∑ j : Fin 256, v (ix4 ⟨r / 256, by omega⟩ j ⟨k / 64, by omega⟩ ⟨k % 64, by omega⟩)
      * w (ix4 ⟨r / 256, by omega⟩ ⟨k / 64, by omega⟩ ⟨r % 256, by omega⟩ j)) * wo (ix2 k n) := by
  pointwise [product]

theorem first_at (c : Dev nD) : (first c (Shape.Idx.first h_S_)).toInt = 4 * (c : ℕ) := by
  revert c; decide

theorem heads_apply (c : Dev nD) (x : FVec Ideal S2x256x16x64 .f32) (b : Fin 2) (j : Fin 256) (h : Fin 4) (d : Fin 64) :
    heads c x (ix4 b j h d) = x (ix4 b j ⟨4 * c + h, by have := c.isLt; simp only [nD] at this; omega⟩ d) := by
  pointwise [heads]
  have hc := c.isLt
  simp only [nD] at hc
  have hf := first_at c
  have h0 : (constantI S_ 32 0#32 (Shape.Idx.first h_S_)).toInt = 0 := by decide
  have e4 {a a' : Fin 2} {b b' : Fin 256} {e e' : Fin 16} {f f' : Fin 64} (h₁ : a = a') (h₂ : b = b') (h₃ : e = e') (h₄ : f = f') :
      x (ix4 a b e f) = x (ix4 a' b' e' f') := by rw [h₁, h₂, h₃, h₄]
  refine e4 (Fin.ext ?_) (Fin.ext ?_) (Fin.ext ?_) (Fin.ext ?_) <;>
    simp only [Host.clampedStart, Matrix.cons_val, h0, hf] <;> (try simp) <;> (try omega)

end Cert.KernelIdeal.Term
-- ==== Proof.RefTerm.lean ====
/-
  The reference's result as a term of its arguments, in named stages.
-/
module

public import proofs.«01_k».proof.Proof.Gen.ReferenceIdeal.Run

@[expose] public section

set_option maxRecDepth 16384

noncomputable section

namespace Cert.ReferenceIdeal.Term

open Cert.ReferenceIdeal Cert.ReferenceIdeal.Gen Idealize.ShloMosaic Idealize.ShloMosaic.TcCoe

variable {F : FTy → Type} [FloatOps F]

/-- The row numbers divided by 64, rounding down, as the program spells it. -/
def blockNo : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32))))
        (broadcastInDim S256 ![] bcast_S_S256 (constantI S_ 32 0#32))))
    (subi (Host.divsi (iotaInDim S256 32 0) (broadcastInDim S256 ![] bcast_S_S256 (id (constantI S_ 32 64#32))))
      (broadcastInDim S256 ![] bcast_S_S256 (constantI S_ 32 1#32)))
    (Host.divsi (iotaInDim S256 32 0) (broadcastInDim S256 ![] bcast_S_S256 (id (constantI S_ 32 64#32))))

/-- The block-causal mask: column j is kept in row i when j's block number is at most i's. -/
def mask : IVec S256x256 1 :=
  cmpi .sle (broadcastInDim S256x256 ![0, 1] bcast_S1x256_S256x256_0_1 (broadcastInDim S1x256 ![1] bcast_S256_S1x256_1 blockNo))
    (broadcastInDim S256x256 ![0, 1] bcast_S256x1_S256x256_0_1 (broadcastInDim S256x1 ![0] bcast_S256_S256x1_0 blockNo))

/-- Which rows keep a column at all. -/
def kept (w : IVec S256x256 1) : IVec S256 1 :=
  Host.reduce IntOp.ori w (constantI S_ 1 0#1) reducesTo_S256x256_S256_d1 h_S_

/-- The queries. -/
def queries (x : FVec F S2x256x512 .f32) (wq : FVec F S512x1024 .f32) : FVec F S2x256x16x64 .f32 :=
  shapeCast S2x256x16x64 (Host.dotGeneral dot_S2x256x512_S512x1024_S2x256x1024_2_0_01_1_n_n none x wq) shapeCasts_S2x256x1024_S2x256x16x64

/-- The scaled scores of queries against keys. -/
def scores (q k : FVec F S2x256x16x64 .f32) : FVec F S2x16x256x256 .f32 :=
  mulf (Host.dotGeneral dot_S2x256x16x64_S2x256x16x64_S2x16x256x256_3_3_1_1_02_02 none q k)
    (broadcastInDim S2x16x256x256 ![] bcast_S_S2x16x256x256 (constant S_ .f32 0x3E000000#32))

/-- The scores with the masked columns at the literal −1e9. -/
def masked (s : FVec F S2x16x256x256 .f32) (w : IVec S256x256 1) : FVec F S2x16x256x256 .f32 :=
  select (broadcastInDim S2x16x256x256 ![0, 1, 2, 3] bcast_S1x1x256x256_S2x16x256x256_0_1_2_3
      (broadcastInDim S1x1x256x256 ![2, 3] bcast_S256x256_S1x1x256x256_2_3 w)) s
    (broadcastInDim S2x16x256x256 ![] bcast_S_S2x16x256x256 (id (constant S_ .f32 0xCE6E6B28#32)))

/-- The exponentials of the scores less their row's maximum. -/
def exps (s : FVec F S2x16x256x256 .f32) : FVec F S2x16x256x256 .f32 :=
  Host.exp (subf s (broadcastInDim S2x16x256x256 ![0, 1, 2, 3] bcast_S2x16x256x1_S2x16x256x256_0_1_2_3
    (broadcastInDim S2x16x256x1 ![0, 1, 2] bcast_S2x16x256_S2x16x256x1_0_1_2
        (Host.reduce FloatOps.maximumf s (constant S_ .f32 0xFF800000#32) reducesTo_S2x16x256x256_S2x16x256_d3 h_S_))))

/-- The exponentials divided by their row's sum, where the row keeps a column; one and zero in the other rows. -/
def weights (e : FVec F S2x16x256x256 .f32) (r : IVec S256 1) : FVec F S2x16x256x256 .f32 :=
  select (broadcastInDim S2x16x256x256 ![0, 1, 2, 3] bcast_S1x1x256x1_S2x16x256x256_0_1_2_3 (broadcastInDim S1x1x256x1 ![2] bcast_S256_S1x1x256x1_2 r))
    (Host.divf e (broadcastInDim S2x16x256x256 ![0, 1, 2, 3] bcast_S2x16x256x1_S2x16x256x256_0_1_2_3
      (select (broadcastInDim S2x16x256x1 ![0, 1, 2, 3] bcast_S1x1x256x1_S2x16x256x1_0_1_2_3 (broadcastInDim S1x1x256x1 ![2] bcast_S256_S1x1x256x1_2 r))
        (broadcastInDim S2x16x256x1 ![0, 1, 2] bcast_S2x16x256_S2x16x256x1_0_1_2
          (Host.reduceAdd e (constant S_ .f32 0x00000000#32) reducesTo_S2x16x256x256_S2x16x256_d3 h_S_))
        (broadcastInDim S2x16x256x1 ![] bcast_S_S2x16x256x1 (id (constant S_ .f32 0x3F800000#32))))))
    (broadcastInDim S2x16x256x256 ![] bcast_S_S2x16x256x256 (id (constant S_ .f32 0x00000000#32)))

/-- The weighted values, row by row, and their product with the output projection. -/
def product (v : FVec F S2x256x16x64 .f32) (w : FVec F S2x16x256x256 .f32) (wo : FVec F S1024x512 .f32) : FVec F S2x256x512 .f32 :=
  Host.dotGeneral dot_S2x256x1024_S1024x512_S2x256x512_2_0_01_1_n_n none
    (shapeCast S2x256x1024 (transpose S2x256x16x64 [0, 3, 1, 2]
      (Host.dotGeneral dot_S2x256x16x64_S2x16x256x256_S2x16x64x256_1_3_3_2_02_01 none v w) transposes_S2x16x64x256_S2x256x16x64_0_3_1_2)
      shapeCasts_S2x256x16x64_S2x256x1024) wo

/-- The whole result, of the arguments' contents. -/
def whole (x : FVec F S2x256x512 .f32) (wq : FVec F S512x1024 .f32) (k v : FVec F S2x256x16x64 .f32) (wo : FVec F S1024x512 .f32) :
    FVec F S2x256x512 .f32 :=
  product v (weights (exps (masked (scores (queries x wq) k) mask)) (kept mask)) wo

/-- What the reference leaves in its result. -/
theorem res_eq (m : (ℓ : Loc nD τ sig) → Buf (Elt F) ℓ) (c : Dev nD) :
    Value.res_out0 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out0 Value.res_main_v33
  rfl

end Cert.ReferenceIdeal.Term
-- ==== Proof.RefRead.lean ====
/-
  The stages of the reference over the extended reals, entry by entry.
-/
module

public import proofs.«01_k».proof.Proof.RefTerm
public import Idealize.ShloMosaic.Lib.Pointwise
public import Idealize.ShloMosaic.Lib.Routing.OpsOrder

@[expose] public section

set_option maxRecDepth 16384

noncomputable section

namespace Cert.ReferenceIdeal.Term

open Cert.ReferenceIdeal Cert.ReferenceIdeal.Gen Idealize.ShloMosaic Idealize.ShloMosaic.TcCoe

theorem queries_apply (x : FVec Ideal S2x256x512 .f32) (wq : FVec Ideal S512x1024 .f32) (b : Fin 2) (i : Fin 256) (h : Fin 16) (d : Fin 64) :
    queries x wq (ix4 b i h d) = ∑ k : Fin 512, x (ix3 b i k) * wq (ix2 k ⟨h * 64 + d, by omega⟩) := by
  pointwise [queries]

theorem scores_apply (q k : FVec Ideal S2x256x16x64 .f32) (b : Fin 2) (h : Fin 16) (i j : Fin 256) :
    scores q k (ix4 b h i j) = (∑ d : Fin 64, q (ix4 b i h d) * k (ix4 b j h d)) * Ideal.ofBits .f32 0x3E000000#32 := by
  pointwise [scores]

theorem masked_apply (s : FVec Ideal S2x16x256x256 .f32) (w : IVec S256x256 1) (b : Fin 2) (h : Fin 16) (i j : Fin 256) :
    masked s w (ix4 b h i j) = Scalar.select (w (ix2 i j)) (s (ix4 b h i j)) (Ideal.ofBits .f32 0xCE6E6B28#32) := by
  pointwise [masked, id_eq]

theorem exps_apply (s : FVec Ideal S2x16x256x256 .f32) (b : Fin 2) (h : Fin 16) (i j : Fin 256) :
    exps s (ix4 b h i j) = Ideal.exp (s (ix4 b h i j)
      - Finset.univ.fold max (Ideal.ofBits .f32 0xFF800000#32) fun k : Fin 256 => s (ix4 b h i k)) := by
  pointwise [exps]

theorem weights_apply (e : FVec Ideal S2x16x256x256 .f32) (r : IVec S256 1) (b : Fin 2) (h : Fin 16) (i j : Fin 256) (hr : r (ix1 i) = 1#1) :
    weights e r (ix4 b h i j) = Ideal.div (e (ix4 b h i j)) (∑ k : Fin 256, e (ix4 b h i k)) := by
  pointwise [weights, id_eq, hr]

theorem product_apply (v : FVec Ideal S2x256x16x64 .f32) (w : FVec Ideal S2x16x256x256 .f32) (wo : FVec Ideal S1024x512 .f32)
    (b : Fin 2) (i : Fin 256) (n : Fin 512) :
    product v w wo (ix3 b i n) = ∑ k : Fin 1024, (∑ j : Fin 256, v (ix4 b j ⟨k / 64, by omega⟩ ⟨k % 64, by omega⟩)
      * w (ix4 b ⟨k / 64, by omega⟩ i j)) * wo (ix2 k n) := by
  pointwise [product]

theorem mask_first (i : Fin 256) : mask (ix2 i 0) = 1#1 := by
  revert i; decide

theorem kept_mask (i : Fin 256) : kept mask (ix1 i) = 1#1 := by
  pointwise [kept]
  exact (Routing.fold_ori _ _).mpr ⟨0, Finset.mem_univ _, mask_first i⟩

end Cert.ReferenceIdeal.Term
-- ==== Proof.Equation.lean ====
/-
  The four partial products, each of four heads, add up to the reference's product of all sixteen.
-/
module

public import proofs.«01_k».proof.Proof.IdealRead
public import proofs.«01_k».proof.Proof.RefRead
public import Idealize.ShloMosaic.Lib.Layout

@[expose] public section

set_option maxRecDepth 16384

noncomputable section

namespace Cert.Equation

open Idealize.ShloMosaic Idealize.ShloMosaic.TcCoe

/-- The whole head that head `h` of device `c` is. -/
def hd (c h : Fin 4) : Fin 16 := ⟨4 * c + h, by omega⟩
/-- The inner column that inner column `k` of device `c` is. -/
def col (c : Fin 4) (k : Fin 256) : Fin 1024 := ⟨c * 256 + k, by omega⟩

variable (c : Fin 4) (x : FVec Ideal ⟨3, ![2, 256, 512]⟩ .f32) (wq : FVec Ideal ⟨2, ![512, 1024]⟩ .f32)
  (k v : FVec Ideal ⟨4, ![2, 256, 16, 64]⟩ .f32) (wo : FVec Ideal ⟨2, ![1024, 512]⟩ .f32)

theorem block_cols (r : Fin 512) (j : Fin 256) :
    Layout.block ⟨2, ![512, 256]⟩ ⟨2, ![512, 1024]⟩ 1 4 c wq (by decide) (ix2 r j) = wq (ix2 r (col c j)) := by
  rw [Layout.block_apply]
  congr 1
  funext a
  match a with
  | ⟨0, _⟩ => rfl
  | ⟨1, _⟩ => rfl

theorem block_rows (j : Fin 256) (n : Fin 512) :
    Layout.block ⟨2, ![256, 512]⟩ ⟨2, ![1024, 512]⟩ 0 4 c wo (by decide) (ix2 j n) = wo (ix2 (col c j) n) := by
  rw [Layout.block_apply]
  congr 1
  funext a
  match a with
  | ⟨0, _⟩ => rfl
  | ⟨1, _⟩ => rfl

/-! ## Head by head -/

/-- The queries of a device, and of the reference. -/
abbrev qD : FVec Ideal ⟨4, ![2, 256, 4, 64]⟩ .f32 :=
  KernelIdeal.Term.queries x (Layout.block ⟨2, ![512, 256]⟩ ⟨2, ![512, 1024]⟩ 1 4 c wq)
abbrev qR : FVec Ideal ⟨4, ![2, 256, 16, 64]⟩ .f32 := ReferenceIdeal.Term.queries x wq

theorem queries_eq (b : Fin 2) (i : Fin 256) (h : Fin 4) (d : Fin 64) :
    qD c x wq (ix4 b i h d) = qR x wq (ix4 b i (hd c h) d) := by
  refine (KernelIdeal.Term.queries_apply _ _ b i h d).trans (Eq.trans ?_ (ReferenceIdeal.Term.queries_apply _ _ b i (hd c h) d).symm)
  refine Finset.sum_congr rfl fun r _ => ?_
  rw [block_cols]
  have e : col c ⟨h * 64 + d, by omega⟩ = (⟨(hd c h).val * 64 + d, by have := (hd c h).isLt; omega⟩ : Fin 1024) :=
    Fin.ext (by simp only [col, hd]; omega)
  rw [e]

abbrev sD : FVec Ideal ⟨4, ![2, 4, 256, 256]⟩ .f32 := KernelIdeal.Term.scores (qD c x wq) (KernelIdeal.Term.heads c k)
abbrev sR : FVec Ideal ⟨4, ![2, 16, 256, 256]⟩ .f32 := ReferenceIdeal.Term.scores (qR x wq) k

theorem scores_eq (b : Fin 2) (h : Fin 4) (i j : Fin 256) :
    sD c x wq k (ix4 b h i j) = sR x wq k (ix4 b (hd c h) i j) := by
  refine (KernelIdeal.Term.scores_apply _ _ b h i j).trans (Eq.trans ?_ (ReferenceIdeal.Term.scores_apply _ _ b (hd c h) i j).symm)
  congr 1
  refine Finset.sum_congr rfl fun d _ => ?_
  exact congrArg₂ (· * ·) (queries_eq c x wq b i h d) (KernelIdeal.Term.heads_apply c k b j h d)

theorem mask_eq : KernelIdeal.Term.mask = ReferenceIdeal.Term.mask := rfl

abbrev mD : FVec Ideal ⟨4, ![2, 4, 256, 256]⟩ .f32 := KernelIdeal.Term.masked (sD c x wq k) KernelIdeal.Term.mask
abbrev mR : FVec Ideal ⟨4, ![2, 16, 256, 256]⟩ .f32 := ReferenceIdeal.Term.masked (sR x wq k) ReferenceIdeal.Term.mask

theorem masked_eq (b : Fin 2) (h : Fin 4) (i j : Fin 256) :
    mD c x wq k (ix4 b h i j) = mR x wq k (ix4 b (hd c h) i j) := by
  refine (KernelIdeal.Term.masked_apply _ _ b h i j).trans (Eq.trans ?_ (ReferenceIdeal.Term.masked_apply _ _ b (hd c h) i j).symm)
  rw [scores_eq, mask_eq]

abbrev eD : FVec Ideal ⟨4, ![2, 4, 256, 256]⟩ .f32 := KernelIdeal.Term.exps (mD c x wq k)
abbrev eR : FVec Ideal ⟨4, ![2, 16, 256, 256]⟩ .f32 := ReferenceIdeal.Term.exps (mR x wq k)

/-- The device takes the row's maximum once more against the value the fold starts from, which changes nothing. -/
theorem exps_eq (b : Fin 2) (h : Fin 4) (i j : Fin 256) :
    eD c x wq k (ix4 b h i j) = eR x wq k (ix4 b (hd c h) i j) := by
  refine (KernelIdeal.Term.exps_apply _ b h i j).trans (Eq.trans ?_ (ReferenceIdeal.Term.exps_apply _ b (hd c h) i j).symm)
  rw [max_eq_right ((Finset.le_fold_max _).mpr (Or.inl le_rfl)), masked_eq,
    funext fun l : Fin 256 => masked_eq c x wq k b h i l]

abbrev wD : FVec Ideal ⟨4, ![2, 4, 256, 256]⟩ .f32 := KernelIdeal.Term.weights (eD c x wq k)
abbrev wR : FVec Ideal ⟨4, ![2, 16, 256, 256]⟩ .f32 :=
  ReferenceIdeal.Term.weights (eR x wq k) (ReferenceIdeal.Term.kept ReferenceIdeal.Term.mask)

/-- Every row keeps at least one column, so the reference's zeroing of rows without any is never used. -/
theorem weights_eq (b : Fin 2) (h : Fin 4) (i j : Fin 256) :
    wD c x wq k (ix4 b h i j) = wR x wq k (ix4 b (hd c h) i j) := by
  refine (KernelIdeal.Term.weights_apply _ b h i j).trans (Eq.trans ?_
    (ReferenceIdeal.Term.weights_apply _ _ b (hd c h) i j (ReferenceIdeal.Term.kept_mask i)).symm)
  rw [exps_eq, Finset.sum_congr rfl fun l _ => exps_eq c x wq k b h i l]

/-! ## The product -/

/-- The reference's summand at inner column `l`. -/
def term (b : Fin 2) (i : Fin 256) (n : Fin 512) (l : Fin 1024) : EReal :=
  (∑ j : Fin 256, v (ix4 b j ⟨l / 64, by omega⟩ ⟨l % 64, by omega⟩)
    * wR x wq k (ix4 b ⟨l / 64, by omega⟩ i j)) * wo (ix2 l n)

theorem whole_apply (b : Fin 2) (i : Fin 256) (n : Fin 512) :
    ReferenceIdeal.Term.whole x wq k v wo (ix3 b i n) = ∑ l : Fin 1024, term x wq k v wo b i n l :=
  ReferenceIdeal.Term.product_apply v (wR x wq k) wo b i n

theorem share_apply (b : Fin 2) (i : Fin 256) (n : Fin 512) :
    KernelIdeal.Term.share c x (Layout.block ⟨2, ![512, 256]⟩ ⟨2, ![512, 1024]⟩ 1 4 c wq) k v
        (Layout.block ⟨2, ![256, 512]⟩ ⟨2, ![1024, 512]⟩ 0 4 c wo) (ix2 (⟨b * 256 + i, by omega⟩ : Fin 512) n)
      = ∑ l : Fin 256, term x wq k v wo b i n (col c l) := by
  refine (KernelIdeal.Term.product_apply (KernelIdeal.Term.heads c v) (wD c x wq k) _ _ n).trans ?_
  refine Finset.sum_congr rfl fun l _ => ?_
  have eb : (⟨(⟨b * 256 + i, by omega⟩ : Fin 512).val / 256, by omega⟩ : Fin 2) = b := Fin.ext (by simp only []; omega)
  have ei : (⟨(⟨b * 256 + i, by omega⟩ : Fin 512).val % 256, by omega⟩ : Fin 256) = i := Fin.ext (by simp only []; omega)
  have eh : hd c ⟨l / 64, by omega⟩ = (⟨(col c l).val / 64, by have := (col c l).isLt; omega⟩ : Fin 16) :=
    Fin.ext (by simp only [hd, col]; omega)
  have ed : (⟨l % 64, by omega⟩ : Fin 64) = ⟨(col c l).val % 64, by omega⟩ := Fin.ext (by simp only [col]; omega)
  rw [eb, ei, block_rows]
  refine congrArg (· * wo (ix2 (col c l) n)) (Finset.sum_congr rfl fun j _ => ?_)
  refine congrArg₂ (· * ·) ((KernelIdeal.Term.heads_apply c v b j _ _).trans ?_) ((weights_eq c x wq k b _ i j).trans ?_)
  · exact congrArg₂ (fun e f => v (ix4 b j e f)) eh ed
  · exact congrArg (fun e => wR x wq k (ix4 b e i j)) eh

/-! ## The sum over the devices -/

theorem sum_cols (f : Fin 1024 → EReal) : ∑ l : Fin 1024, f l = ∑ c : Fin 4, ∑ l : Fin 256, f (col c l) := by
  rw [← Fintype.sum_prod_type' (f := fun c l => f (col c l))]
  refine (Equiv.sum_comp (finProdFinEquiv : Fin 4 × Fin 256 ≃ Fin (4 * 256)) f).symm.trans ?_
  refine Finset.sum_congr rfl fun p _ => congrArg f (Fin.ext ?_)
  simp only [finProdFinEquiv_apply_val, col]
  omega

open KernelIdeal KernelIdeal.Talk in
/-- The three devices before each device. -/
theorem places (e : Dev nD) : (e = 0 ∧ pv e 0 = 3 ∧ pv e 1 = 2 ∧ pv e 2 = 1) ∨ (e = 1 ∧ pv e 0 = 0 ∧ pv e 1 = 3 ∧ pv e 2 = 2)
    ∨ (e = 2 ∧ pv e 0 = 1 ∧ pv e 1 = 0 ∧ pv e 2 = 3) ∨ (e = 3 ∧ pv e 0 = 2 ∧ pv e 1 = 1 ∧ pv e 2 = 0) := by
  revert e; decide

open KernelIdeal KernelIdeal.Talk in
/-- A reduced block holds the sum of the four partials, whatever order its owner added them in. -/
theorem total_apply (P : Dev nD → FVec Ideal S512x512 .f32) (r n : Fin 512) :
    total (F := Ideal) P (ix2 r n) = (∑ c : Fin 4, P c (ix2 r n) : EReal) := by
  have key (e : Dev nD) (j : S128x512.Idx) : red (F := Ideal) P e j = (∑ c : Fin 4, P c ((rowR e).emb j) : EReal) := by
    change P e _ + P (pv e 0) _ + P (pv e 1) _ + P (pv e 2) _ = _
    generalize (rowR e).emb j = i
    rw [Fin.sum_univ_four]
    rcases places e with ⟨h0, h1, h2, h3⟩ | ⟨h0, h1, h2, h3⟩ | ⟨h0, h1, h2, h3⟩ | ⟨h0, h1, h2, h3⟩ <;>
      rw [h1, h2, h3, h0] <;> ac_rfl
  refine (key _ _).trans (Finset.sum_congr rfl fun c _ => congrArg (P c) ?_)
  funext a
  apply Fin.ext
  match a with
  | ⟨0, _⟩ =>
    change 128 * (r.val / 128) + 1 * (r.val % 128) = r.val
    omega
  | ⟨1, _⟩ =>
    change 0 + 1 * n.val = n.val
    omega

open KernelIdeal KernelIdeal.Gen KernelIdeal.Talk in
/-- The kernel's result on a device is the reassembled total, as three axes. -/
theorem V9_out (m : (ℓ : Loc nD τ sig) → Buf (Elt Ideal) ℓ) (e : Dev nD) :
    V9 m (outs m) e (Proc.devRef .tc main_v48)
      = (shapeCast S2x256x512 (total (part m) : FVec Ideal S512x512 .f32) shapeCasts_S512x512_S2x256x512 : FVec Ideal S2x256x512 .f32) := by
  rw [← V8_out m e]
  show StableHlo.after hostOps1 (V8 m (outs m) e) (Proc.devRef .tc main_v48) = _
  generalize V8 m (outs m) e = W
  after_results_simp <;> rfl

theorem cast_apply (t : FVec Ideal KernelIdeal.S512x512 .f32) (b : Fin 2) (i : Fin 256) (n : Fin 512) :
    (shapeCast KernelIdeal.S2x256x512 t KernelIdeal.Gen.shapeCasts_S512x512_S2x256x512 : FVec Ideal KernelIdeal.S2x256x512 .f32) (ix3 b i n)
      = t (ix2 (⟨b * 256 + i, by omega⟩ : Fin 512) n) := by
  pointwise

open KernelIdeal KernelIdeal.Gen KernelIdeal.Talk in
/-- Of arguments cut over the four devices, every device's result is the reference's. -/
theorem result_eq (m : (ℓ : Loc nD τ sig) → Buf (Elt Ideal) ℓ) (x : FVec Ideal ⟨3, ![2, 256, 512]⟩ .f32)
    (wq : FVec Ideal ⟨2, ![512, 1024]⟩ .f32) (k v : FVec Ideal ⟨4, ![2, 256, 16, 64]⟩ .f32) (wo : FVec Ideal ⟨2, ![1024, 512]⟩ .f32)
    (h : ∀ c : Dev nD, m ((c.tc : Thread nD τ).loc main_arg0) = x
      ∧ m ((c.tc : Thread nD τ).loc main_arg1) = Layout.block ⟨2, ![512, 256]⟩ ⟨2, ![512, 1024]⟩ 1 4 c wq
      ∧ m ((c.tc : Thread nD τ).loc main_arg2) = k ∧ m ((c.tc : Thread nD τ).loc main_arg3) = v
      ∧ m ((c.tc : Thread nD τ).loc main_arg4) = Layout.block ⟨2, ![256, 512]⟩ ⟨2, ![1024, 512]⟩ 0 4 c wo) (e : Dev nD) :
    V9 m (outs m) e (Proc.devRef .tc main_v48) = (ReferenceIdeal.Term.whole x wq k v wo : FVec Ideal ⟨3, ![2, 256, 512]⟩ .f32) := by
  have hp (c : Dev nD) : part m c = KernelIdeal.Term.share c x (Layout.block ⟨2, ![512, 256]⟩ ⟨2, ![512, 1024]⟩ 1 4 c wq) k v
      (Layout.block ⟨2, ![256, 512]⟩ ⟨2, ![1024, 512]⟩ 0 4 c wo) := by
    obtain ⟨h0, h1, h2, h3, h4⟩ := h c
    rw [KernelIdeal.Term.part_eq, h0, h1, h2, h3, h4]
  rw [V9_out]
  refine funext fun j : (⟨3, ![2, 256, 512]⟩ : Shape).Idx => ?_
  rw [eq_ix3 j]
  generalize j 0 = b, j 1 = i, j 2 = n
  refine (cast_apply _ b i n).trans ((total_apply _ _ n).trans (Eq.trans ?_ (whole_apply x wq k v wo b i n).symm))
  rw [sum_cols]
  exact Finset.sum_congr rfl fun c _ => (congrFun (hp c) _).trans (share_apply c x wq k v wo b i n)

end Cert.Equation
-- ==== Proof.lean ====
/-
  The certificate's proof: each claim of Defs.lean from the modules under Proof/.
-/
module

public import proofs.«01_k».proof.Defs
public import proofs.«01_k».proof.Proof.WordWhole
public import proofs.«01_k».proof.Proof.IdealWhole
public import proofs.«01_k».proof.Proof.Equation
public import proofs.«01_k».proof.Proof.Gen.ReferenceIdeal.Run

@[expose] public section

noncomputable section

namespace Cert.Proof

open Idealize.ShloMosaic Idealize.SL.Sem

/-- The kernel on words runs to its end, leaves its arguments as they were and every counter at zero. -/
theorem kernel_frame : Cert.quiescent_Kernel := fun m ρ _ =>
  (θ_run _ _ _).mono (fun _ h => ⟨fun c => (h.1 c).1, h.2⟩) (Cert.Kernel.Talk.run_main m ρ)

/-- The kernel over the extended reals likewise. -/
theorem ideal_frame : Cert.quiescent_KernelIdeal := fun m ρ _ =>
  (θ_run _ _ _).mono (fun _ h => ⟨fun c => (h.1 c).1, h.2⟩) (Cert.KernelIdeal.Talk.run_main m ρ)

/-- The reference over the extended reals likewise: it has no semaphore at all. -/
theorem reference_frame : Cert.quiescent_ReferenceIdeal := fun m ρ _ =>
  (θ_run _ _ _).mono (fun _ h => ⟨fun c => (h c).2, funext fun g => by
      obtain ⟨_, (i | i)⟩ := g <;> exact i.elim0⟩) (Cert.ReferenceIdeal.Value.run m ρ)

/-- Over the extended reals every device of the kernel ends with the reference's result. -/
theorem same_function : Cert.algebraic_KernelIdeal_ReferenceIdeal := fun m g m' g' _ h =>
  ⟨Cert.ReferenceIdeal.Value.res_out0 m' 0,
    (θ_run _ _ _).mono (fun r hr c => by
      obtain ⟨⟨a0, a1, a2, a3, a4⟩, hv, _⟩ := hr.1 c
      exact ⟨hv.trans ((Cert.Equation.result_eq m _ _ _ _ _ h c).trans (Cert.ReferenceIdeal.Term.res_eq m' 0).symm), a0, a1, a2, a3, a4⟩) (Cert.KernelIdeal.Talk.run_main m g),
    (θ_run _ _ _).mono (fun r hr => hr 0) (Cert.ReferenceIdeal.Value.run m' g')⟩

theorem claim : Cert.Claim := ⟨Cert.Kernel.Gen.facts, Cert.KernelIdeal.Gen.facts, Cert.ReferenceIdeal.Gen.facts,
  kernel_frame, ideal_frame, reference_frame, trivial, same_function⟩

end Cert.Proof

end
